-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_range [hPre_bf16_range : Cert.Pre_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_range [hPre_bf16_range : Cert.Pre_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bf16_range [hKernelIdeal : Cert.KernelIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bf16_range [hReferenceIdeal : Cert.ReferenceIdeal.Facts] [hPre_bf16_range : Cert.Pre_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bf16_range [hKernelIdeal : Cert.KernelIdeal.Facts] [hReferenceIdeal : Cert.ReferenceIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bf16_range : Cert.Pre_bf16_range.Facts),
    quiescent_Kernel (hKernel := hKernel)
    ∧ quiescent_KernelIdeal (hKernelIdeal := hKernelIdeal)
    ∧ quiescent_KernelIdeal_pre_bf16_range (hKernelIdeal := hKernelIdeal) (hPre_bf16_range := hPre_bf16_range)
    ∧ quiescent_ReferenceIdeal (hReferenceIdeal := hReferenceIdeal)
    ∧ quiescent_ReferenceIdeal_pre_bf16_range (hReferenceIdeal := hReferenceIdeal) (hPre_bf16_range := hPre_bf16_range)
    ∧ preserves_Kernel_KernelIdeal
    ∧ algebraic_KernelIdeal_ReferenceIdeal_pre_bf16_range (hKernelIdeal := hKernelIdeal) (hReferenceIdeal := hReferenceIdeal) (hPre_bf16_range := hPre_bf16_range)
-- ==== Pre_bf16_range.lean ====
abbrev S2x384x2048 : Shape := ⟨3, ![2, 384, 2048]⟩
abbrev S2048x8192 : Shape := ⟨2, ![2048, 8192]⟩
abbrev S8192 : Shape := ⟨1, ![8192]⟩
abbrev S2x384x8192 : Shape := ⟨3, ![2, 384, 8192]⟩
abbrev S_ : Shape := ⟨0, ![]⟩

class Facts : Prop where
  bitsLt_bf16_f32 : FTy.bits .bf16 < FTy.bits .f32
  bcast_S_S2x384x2048 : S_.BroadcastsInDim S2x384x2048 (![] : Fin 0 → Fin S2x384x2048.rank)

variable [Facts]

def fn {F : FTy → Type} [FloatOps F] (main_arg0 : FVec F S2x384x2048 .bf16) (main_arg1 : FVec F S2048x8192 .fp8e4m3) (main_arg2 : FVec F S8192 .f32) (main_arg3 : FVec F S2x384x8192 .bf16) : IVec S2x384x2048 1 :=
  let main_v0 : FVec F S2x384x2048 .f32 := (extf .f32 · bitsLt_bf16_f32) main_arg0
  let main_v1 : FVec F S2x384x2048 .f32 := Host.absf main_v0
  let main_cst : FVec F S_ .f32 := constant S_ .f32 0x7F7F0000#32
  let main_v2 : FVec F S2x384x2048 .f32 := broadcastInDim S2x384x2048 ![] bcast_S_S2x384x2048 main_cst
  let main_v3 : IVec S2x384x2048 1 := cmpf .ole main_v1 main_v2
  let main_cst_0 : FVec F S_ .f32 := constant S_ .f32 0x7F800000#32
  let main_v4 : FVec F S2x384x2048 .f32 := broadcastInDim S2x384x2048 ![] bcast_S_S2x384x2048 main_cst_0
  let main_v5 : IVec S2x384x2048 1 := cmpf .oeq main_v1 main_v4
  let main_v6 : IVec S2x384x2048 1 := ori main_v3 main_v5
  main_v6
-- ==== Kernel.lean ====
abbrev S2x384x2048 : Shape := ⟨3, ![2, 384, 2048]⟩
abbrev S2048x8192 : Shape := ⟨2, ![2048, 8192]⟩
abbrev S8192 : Shape := ⟨1, ![8192]⟩
abbrev S2x384x8192 : Shape := ⟨3, ![2, 384, 8192]⟩
abbrev S768x2048 : Shape := ⟨2, ![768, 2048]⟩
abbrev S1x8192 : Shape := ⟨2, ![1, 8192]⟩
abbrev S768x8192 : Shape := ⟨2, ![768, 8192]⟩
abbrev S768x1 : Shape := ⟨2, ![768, 1]⟩
abbrev S2048x512 : Shape := ⟨2, ![2048, 512]⟩
abbrev S1x512 : Shape := ⟨2, ![1, 512]⟩
abbrev S768x512 : Shape := ⟨2, ![768, 512]⟩
abbrev S768 : Shape := ⟨1, ![768]⟩

abbrev nBuf : Space → Nat
  | .hbm => 10
  | .vmem => 11
  | .smem => 0
  | _ => 0

abbrev bufTy : (tb : Table) → Fin (tcTables nBuf tb) → BufTy
  | .hbm, ⟨0, _⟩ => ⟨S2x384x2048, .bf16⟩
  | .hbm, ⟨1, _⟩ => ⟨S2048x8192, .fp8e4m3⟩
  | .hbm, ⟨2, _⟩ => ⟨S8192, .f32⟩
  | .hbm, ⟨3, _⟩ => ⟨S2x384x8192, .bf16⟩
  | .hbm, ⟨4, _⟩ => ⟨S768x2048, .bf16⟩
  | .hbm, ⟨5, _⟩ => ⟨S1x8192, .f32⟩
  | .hbm, ⟨6, _⟩ => ⟨S768x8192, .bf16⟩
  | .hbm, ⟨7, _⟩ => ⟨S768x8192, .bf16⟩
  | .hbm, ⟨8, _⟩ => ⟨S768x2048, .fp8e4m3⟩
  | .hbm, ⟨9, _⟩ => ⟨S768x1, .f32⟩
  | .local _ .vmem, ⟨0, _⟩ => ⟨S768x2048, .bf16⟩
  | .local _ .vmem, ⟨1, _⟩ => ⟨S2048x512, .fp8e4m3⟩
  | .local _ .vmem, ⟨2, _⟩ => ⟨S2048x512, .fp8e4m3⟩
  | .local _ .vmem, ⟨3, _⟩ => ⟨S1x512, .f32⟩
  | .local _ .vmem, ⟨4, _⟩ => ⟨S1x512, .f32⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | .local _ .vmem, ⟨9, _⟩ => ⟨S768x2048, .fp8e4m3⟩
  | .local _ .vmem, ⟨10, _⟩ => ⟨S768x1, .f32⟩
  | _, _ => ⟨S2x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x384x2048 : Shape := ⟨3, ![2, 384, 2048]⟩
abbrev S2048x8192 : Shape := ⟨2, ![2048, 8192]⟩
abbrev S8192 : Shape := ⟨1, ![8192]⟩
abbrev S2x384x8192 : Shape := ⟨3, ![2, 384, 8192]⟩
abbrev S768x2048 : Shape := ⟨2, ![768, 2048]⟩
abbrev S1x8192 : Shape := ⟨2, ![1, 8192]⟩
abbrev S768x8192 : Shape := ⟨2, ![768, 8192]⟩
abbrev S768x1 : Shape := ⟨2, ![768, 1]⟩
abbrev S768 : Shape := ⟨1, ![768]⟩

abbrev nBuf : Space → Nat
  | .hbm => 10
  | .vmem => 7
  | .smem => 0
  | _ => 0

abbrev bufTy : (tb : Table) → Fin (tcTables nBuf tb) → BufTy
  | .hbm, ⟨0, _⟩ => ⟨S2x384x2048, .bf16⟩
  | .hbm, ⟨1, _⟩ => ⟨S2048x8192, .fp8e4m3⟩
  | .hbm, ⟨2, _⟩ => ⟨S8192, .f32⟩
  | .hbm, ⟨3, _⟩ => ⟨S2x384x8192, .bf16⟩
  | .hbm, ⟨4, _⟩ => ⟨S768x2048, .bf16⟩
  | .hbm, ⟨5, _⟩ => ⟨S1x8192, .f32⟩
  | .hbm, ⟨6, _⟩ => ⟨S768x8192, .bf16⟩
  | .hbm, ⟨7, _⟩ => ⟨S768x8192, .bf16⟩
  | .hbm, ⟨8, _⟩ => ⟨S768x2048, .fp8e4m3⟩
  | .hbm, ⟨9, _⟩ => ⟨S768x1, .f32⟩
  | .local _ .vmem, ⟨0, _⟩ => ⟨S768x2048, .bf16⟩
  | .local _ .vmem, ⟨1, _⟩ => ⟨S2048x8192, .fp8e4m3⟩
  | .local _ .vmem, ⟨2, _⟩ => ⟨S1x8192, .f32⟩
  | .local _ .vmem, ⟨3, _⟩ => ⟨S768x8192, .bf16⟩
  | .local _ .vmem, ⟨4, _⟩ => ⟨S768x8192, .bf16⟩
  | .local _ .vmem, ⟨5, _⟩ => ⟨S768x2048, .fp8e4m3⟩
  | .local _ .vmem, ⟨6, _⟩ => ⟨S768x1, .f32⟩
  | _, _ => ⟨S2x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.IdealBody.lean ====
/-
  What one call of the kernel's body does to its seven staging buffers, in each of the two cases of its conditional: at the
  first grid point it quantises the activations into the codes' and the scales' buffers and then forms a block of `y` from
  them; at every later point it reads the codes and scales it finds there and forms the block.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zero2 : (![0, 0] : Fin 2 → Nat) = fun _ => 0 := by funext a; fin_cases a <;> rfl

/-- A load of a whole buffer reads the buffer. -/
theorem readAt_whole {sp : Space} {S : Shape} {e : EltTy} (v : View sig .tc sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- What is left in a buffer that was stored whole is what was stored. -/
theorem read_stored {sp : Space} {S : Shape} {e : EltTy} (v : View sig .tc sp S e) (f : v.ty.Contents (Elt F)) {off : Fin S.rank → Nat}
    (h : off = fun _ => 0) (inb : ∀ a, off a + S.size a ≤ S.size a) (X : S.Idx → Elt F e) :
    v.read (Elt F) (v.writes (Elt F) f [⟨Rect.unit off S.size inb, X⟩]) = X :=
  (View.read_writes_eq_canon _ _ _ fun y => ⟨_, List.mem_singleton_self _, View.mem_set_unit_zero h inb y⟩).trans
    (View.canon_unit_zero h inb X)

/-- The condition of the body's conditional: this is the first grid point. -/
abbrev isFirst (i : grid0.Coords) : Prop := k0_cond1 i = 1#1

/-- It holds at point 0 and nowhere else. -/
theorem isFirst_iff (t : Fin cfg0.N) : isFirst (grid0.coords t) ↔ t.val % 16 = 0 := by
  have ht : t.val < 16 := Nat.lt_of_lt_of_eq t.isLt N_0
  have e0 : (grid0.coords t 0).val = t.val / 1 % 16 := Pipeline.Grid.coords_val t 0 (by decide) rfl
  simp only [isFirst, k0_cond1, e0]
  word_cmp

/-- The exponent fields of the rows, found by comparing with powers of two. -/
def fields (x : Vec F S768x2048 .bf16) : IVec S768x1 32 := k0_pay9 (k0_pay6 x) (k0_pay7 x) (k0_pay8 x)

/-- The rows' scales. -/
def scales (x : Vec F S768x2048 .bf16) : Vec F S768x1 .f32 := k0_pay2 (fields x) (k0_pay10 (k0_pay6 x)) 255#32

/-- The activations' codes. -/
def codes (x : Vec F S768x2048 .bf16) : Vec F S768x2048 .fp8e4m3 :=
  k0_pay3 (k0_pay5 x) (fields x) (k0_pay10 (k0_pay6 x)) 255#32

/-- A block of `y` from the codes, a block of weights, the scales, a block of the weights' scales and one of the residual. -/
def yBlock (q : Vec F S768x2048 .fp8e4m3) (w : Vec F S2048x512 .fp8e4m3) (s : Vec F S768x1 .f32) (ws : Vec F S1x512 .f32)
    (r : Vec F S768x512 .bf16) : Vec F S768x512 .bf16 := k0_pay4 q w s ws r

/-- Equal operands give equal blocks of `y`. -/
theorem yBlock_congr {q q' : Vec F S768x2048 .fp8e4m3} {w w' : Vec F S2048x512 .fp8e4m3} {s s' : Vec F S768x1 .f32}
    {ws ws' : Vec F S1x512 .f32} {r r' : Vec F S768x512 .bf16} (hq : q = q') (hw : w = w') (hs : s = s') (hws : ws = ws') (hr : r = r') :
    yBlock q w s ws r = yBlock q' w' s' ws' r' := by subst hq hw hs hws hr; rfl

set_option maxHeartbeats 1000000 in
/-- THE BODY AT THE FIRST POINT: the codes and scales of the activations are stored, and a block of `y` made of them. -/
theorem body_first (c : Dev nD) (i : grid0.Coords) (arg1 : Memref sig .tc .vmem S768x2048 .bf16) (harg1 : arg1.IsWhole)
    (arg2 : Memref sig .tc .vmem S2048x512 .fp8e4m3) (harg2 : arg2.IsWhole) (arg3 : Memref sig .tc .vmem S1x512 .f32) (harg3 : arg3.IsWhole)
    (arg4 : Memref sig .tc .vmem S768x512 .bf16) (harg4 : arg4.IsWhole) (arg5 : Memref sig .tc .vmem S768x512 .bf16) (harg5 : arg5.IsWhole)
    (arg6 : Memref sig .tc .vmem S768x2048 .fp8e4m3) (harg6 : arg6.IsWhole) (arg7 : Memref sig .tc .vmem S768x1 .f32) (harg7 : arg7.IsWhole)
    (hc : isFirst i) (x : Vec F S768x2048 .bf16) (w : Vec F S2048x512 .fp8e4m3) (ws : Vec F S1x512 .f32) (r : Vec F S768x512 .bf16)
    (E : Set ℕ) (K : PUnit → sProp 𝕄) :
    iprop(owns (c : Thread nD τ) arg1 fullShare x ∗ owns (c : Thread nD τ) arg2 fullShare w ∗ owns (c : Thread nD τ) arg3 fullShare ws
        ∗ owns (c : Thread nD τ) arg4 fullShare r ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare w ∗ owns (c : Thread nD τ) arg3 fullShare ws
            ∗ owns (c : Thread nD τ) arg4 fullShare r ∗ owns (c : Thread nD τ) arg5 fullShare (yBlock (codes x) w (scales x) ws r)
            ∗ owns (c : Thread nD τ) arg6 fullShare (codes x) ∗ owns (c : Thread nD τ) arg7 fullShare (scales x)) -∗ K ⟨⟩))
      ⊢ wp frame (wpE (defs₀ (F := F)) Variants.none c none) E
          (cc0_attn_out_proj_fp8 i arg1 harg1 arg2 harg2 arg3 harg3 arg4 harg4 arg5 harg5 arg6 harg6 arg7 harg7) K := by
  simp only [cc0_attn_out_proj_fp8_eq_skeleton]; unfold cc0_attn_out_proj_fp8_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    exact (read_stored _ _ zero2 _ _).trans (yBlock_congr
      ((View.readCov_unit_zero _ zero2 _ _).trans (congrArg codes (readAt_whole _ _ zero2 _))) (readAt_whole _ _ zero2 _)
      ((View.readCov_unit_zero _ zero2 _ _).trans (congrArg scales (readAt_whole _ _ zero2 _))) (readAt_whole _ _ zero2 _)
      (readAt_whole _ _ zero2 _))
  isplitl [H5]
  · iexists _; isplitr
    swap; · iexact H5
    ipureintro
    sl_unfold_words
    exact (read_stored _ _ zero2 _ _).trans (congrArg codes (readAt_whole _ _ zero2 _))
  iexists _; isplitr
  swap; · iexact H6
  ipureintro
  sl_unfold_words
  exact (read_stored _ _ zero2 _ _).trans (congrArg scales (readAt_whole _ _ zero2 _))

set_option maxHeartbeats 1000000 in
/-- THE BODY AT A LATER POINT: a block of `y` is made of the codes and scales found, which are left as they were. -/
theorem body_later (c : Dev nD) (i : grid0.Coords) (arg1 : Memref sig .tc .vmem S768x2048 .bf16) (harg1 : arg1.IsWhole)
    (arg2 : Memref sig .tc .vmem S2048x512 .fp8e4m3) (harg2 : arg2.IsWhole) (arg3 : Memref sig .tc .vmem S1x512 .f32) (harg3 : arg3.IsWhole)
    (arg4 : Memref sig .tc .vmem S768x512 .bf16) (harg4 : arg4.IsWhole) (arg5 : Memref sig .tc .vmem S768x512 .bf16) (harg5 : arg5.IsWhole)
    (arg6 : Memref sig .tc .vmem S768x2048 .fp8e4m3) (harg6 : arg6.IsWhole) (arg7 : Memref sig .tc .vmem S768x1 .f32) (harg7 : arg7.IsWhole)
    (hc : ¬isFirst i) (x : Vec F S768x2048 .bf16) (w : Vec F S2048x512 .fp8e4m3) (ws : Vec F S1x512 .f32) (r : Vec F S768x512 .bf16)
    (q : Vec F S768x2048 .fp8e4m3) (s : Vec F S768x1 .f32) (E : Set ℕ) (K : PUnit → sProp 𝕄) :
    iprop(owns (c : Thread nD τ) arg1 fullShare x ∗ owns (c : Thread nD τ) arg2 fullShare w ∗ owns (c : Thread nD τ) arg3 fullShare ws
        ∗ owns (c : Thread nD τ) arg4 fullShare r ∗ (∃ d, owns (c : Thread nD τ) arg5 fullShare d) ∗ owns (c : Thread nD τ) arg6 fullShare q
        ∗ owns (c : Thread nD τ) arg7 fullShare s
        ∗ (iprop(owns (c : Thread nD τ) arg1 fullShare x ∗ owns (c : Thread nD τ) arg2 fullShare w ∗ owns (c : Thread nD τ) arg3 fullShare ws
            ∗ owns (c : Thread nD τ) arg4 fullShare r ∗ owns (c : Thread nD τ) arg5 fullShare (yBlock q w s ws r)
            ∗ owns (c : Thread nD τ) arg6 fullShare q ∗ owns (c : Thread nD τ) arg7 fullShare s) -∗ K ⟨⟩))
      ⊢ wp frame (wpE (defs₀ (F := F)) Variants.none c none) E
          (cc0_attn_out_proj_fp8 i arg1 harg1 arg2 harg2 arg3 harg3 arg4 harg4 arg5 harg5 arg6 harg6 arg7 harg7) K := by
  simp only [cc0_attn_out_proj_fp8_eq_skeleton]; unfold cc0_attn_out_proj_fp8_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    exact (read_stored _ _ zero2 _ _).trans (yBlock_congr (readAt_whole _ _ zero2 _) (readAt_whole _ _ zero2 _)
      (readAt_whole _ _ zero2 _) (readAt_whole _ _ zero2 _) (readAt_whole _ _ zero2 _))
  isplitl [H5]
  · iexists f5; isplitr; · ipureintro; rfl
    iexact H5
  iexists f6; isplitr; · ipureintro; rfl
  iexact H6

end Cert.KernelIdeal.Own

end
-- ==== Proof.IdealRun.lean ====
/-
  The run of the kernel's grid: what each staging buffer holds before and after the body at each of the sixteen points, the
  body's obligation at every point, and the whole run with its frame. The codes' and the scales' buffers are stored at the
  first point only, read at the later ones, and written back after the last.
-/
module

public import proofs.«01_k».proof.Proof.IdealBody
public import Idealize.ShloMosaic.Lib.Claim

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, Nat.lt_of_lt_of_eq (by decide : 0 < 16) N_0.symm⟩

/-- The activations as the run finds them: their window's block at the first point, which is the whole array. -/
def acts (c : Dev nD) : Vec F S768x2048 .bf16 := iblk m c 0 t0

/-- The activations' block is the same at every point. -/
theorem iblk_acts (c : Dev nD) (t : Fin cfg0.N) : iblk m c 0 t = acts m c := rfl

/-- What the buffers hold after the body at a point: the inputs their blocks; `y`'s buffer the point's block of `y`; the
    codes' and scales' buffers those of the activations, at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yBlock (codes (acts m c)) (iblk m c 1 t) (scales (acts m c)) (iblk m c 2 t) (iblk m c 3 t)
    | ⟨5, _⟩ => codes (acts m c)
    | ⟨6, _⟩ => scales (acts m c)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What the body leaves in the activations' buffer. -/
theorem after0_0 (c : Dev nD) (t : Fin cfg0.N) : (dats m 0 c).after 0 t = iblk m c 0 t := by dsimp only [dats]
/-- What the body leaves in the weights' buffer. -/
theorem after0_1 (c : Dev nD) (t : Fin cfg0.N) : (dats m 0 c).after 1 t = iblk m c 1 t := by dsimp only [dats]
/-- What the body leaves in the weights' scales' buffer. -/
theorem after0_2 (c : Dev nD) (t : Fin cfg0.N) : (dats m 0 c).after 2 t = iblk m c 2 t := by dsimp only [dats]
/-- What the body leaves in the residual's buffer. -/
theorem after0_3 (c : Dev nD) (t : Fin cfg0.N) : (dats m 0 c).after 3 t = iblk m c 3 t := by dsimp only [dats]
/-- What the body leaves in `y`'s buffer. -/
theorem after0_4 (c : Dev nD) (t : Fin cfg0.N) : (dats m 0 c).after 4 t
    = yBlock (codes (acts m c)) (iblk m c 1 t) (scales (acts m c)) (iblk m c 2 t) (iblk m c 3 t) := by dsimp only [dats]
/-- What the codes' buffer holds after every point. -/
theorem after0_5 (c : Dev nD) (t : Fin cfg0.N) : (dats m 0 c).after 5 t = codes (acts m c) := by dsimp only [dats]
/-- What the scales' buffer holds after every point. -/
theorem after0_6 (c : Dev nD) (t : Fin cfg0.N) : (dats m 0 c).after 6 t = scales (acts m c) := by dsimp only [dats]

/-- The activations' buffer holds their block at every point, fetched there or not. -/
theorem before0_0 (c : Dev nD) (t : Fin cfg0.N) (d) : (dats m 0 c).before 0 t d = iblk m c 0 t :=
  before0_0_of m (dats m 0 c) (A_eq m c 0) (after0_0 m c) t d
/-- So does the weights' … -/
theorem before0_1 (c : Dev nD) (t : Fin cfg0.N) (d) : (dats m 0 c).before 1 t d = iblk m c 1 t :=
  before0_1_of m (dats m 0 c) (A_eq m c 1) (after0_1 m c) t d
/-- … the weights' scales' … -/
theorem before0_2 (c : Dev nD) (t : Fin cfg0.N) (d) : (dats m 0 c).before 2 t d = iblk m c 2 t :=
  before0_2_of m (dats m 0 c) (A_eq m c 2) (after0_2 m c) t d
/-- … and the residual's. -/
theorem before0_3 (c : Dev nD) (t : Fin cfg0.N) (d) : (dats m 0 c).before 3 t d = iblk m c 3 t :=
  before0_3_of m (dats m 0 c) (A_eq m c 3) (after0_3 m c) t d

/-- The codes' window is live at the first point … -/
theorem live0_5 {t : Fin cfg0.N} (h : t.val % 16 = 0) : cfg0.idle 5 (cfg0.grid.coords t) = false := by
  show (!(k0_cond1 (grid0.coords t) == 1#1)) = false
  rw [(isFirst_iff t).mpr h]; rfl
/-- … and idle at every other. -/
theorem idle0_5 {t : Fin cfg0.N} (h : ¬t.val % 16 = 0) : cfg0.idle 5 (cfg0.grid.coords t) = true := by
  show (!(k0_cond1 (grid0.coords t) == 1#1)) = true
  have hc : ¬(k0_cond1 (grid0.coords t) = 1#1) := fun e => h ((isFirst_iff t).mp e)
  simp [hc]
/-- The scales' window is live at the first point … -/
theorem live0_6 {t : Fin cfg0.N} (h : t.val % 16 = 0) : cfg0.idle 6 (cfg0.grid.coords t) = false := by
  show (!(k0_cond1 (grid0.coords t) == 1#1)) = false
  rw [(isFirst_iff t).mpr h]; rfl
/-- … and idle at every other. -/
theorem idle0_6 {t : Fin cfg0.N} (h : ¬t.val % 16 = 0) : cfg0.idle 6 (cfg0.grid.coords t) = true := by
  show (!(k0_cond1 (grid0.coords t) == 1#1)) = true
  have hc : ¬(k0_cond1 (grid0.coords t) = 1#1) := fun e => h ((isFirst_iff t).mp e)
  simp [hc]

/-- At every point but the first the codes' buffer is found holding the codes: stored at the first point, kept since. -/
theorem before0_5 (c : Dev nD) : ∀ (n : Nat) (hn : n + 1 < cfg0.N) (d), (dats m 0 c).before 5 ⟨n + 1, hn⟩ d = codes (acts m c)
  | n, hn, d => by
    have hN : n + 1 < 16 := lt_of_lt_of_eq hn (show cfg0.N = 16 from N_0)
    have hfl : (cfg0.win 5).flush ⟨n, Nat.lt_of_succ_lt hn⟩ = false := Bool.eq_false_iff.mpr fun h => by
      have := (flush0_5 ⟨n, _⟩).mp h; dsimp only at this; omega
    refine ((dats m 0 c).before_of_pos 5 ⟨n + 1, hn⟩ (Nat.succ_ne_zero n) ((cfg0.win 5).fetch_out rfl _) d).trans ?_
    refine (if_neg (ne_true_of_eq_false hfl)).trans ?_
    match n, hn, hN with
    | 0, hn, _ =>
      unfold Dat.left
      rw [live0_5 (t := ⟨0 + 1 - 1, _⟩) rfl]
      unfold Dat.kept
      rw [Pipeline.fill_of_clip_none 5 _ (fun _ => rfl) d ((dats m 0 c).after 5 _), Window.fill_cut]
      exact after0_5 m c _
    | k + 1, hn, hN =>
      unfold Dat.left
      rw [idle0_5 (t := ⟨k + 1 + 1 - 1, _⟩) (by dsimp only; omega)]
      exact before0_5 c k (Nat.lt_of_succ_lt hn) d

/-- Likewise the scales' buffer the scales. -/
theorem before0_6 (c : Dev nD) : ∀ (n : Nat) (hn : n + 1 < cfg0.N) (d), (dats m 0 c).before 6 ⟨n + 1, hn⟩ d = scales (acts m c)
  | n, hn, d => by
    have hN : n + 1 < 16 := lt_of_lt_of_eq hn (show cfg0.N = 16 from N_0)
    have hfl : (cfg0.win 6).flush ⟨n, Nat.lt_of_succ_lt hn⟩ = false := Bool.eq_false_iff.mpr fun h => by
      have := (flush0_6 ⟨n, _⟩).mp h; dsimp only at this; omega
    refine ((dats m 0 c).before_of_pos 6 ⟨n + 1, hn⟩ (Nat.succ_ne_zero n) ((cfg0.win 6).fetch_out rfl _) d).trans ?_
    refine (if_neg (ne_true_of_eq_false hfl)).trans ?_
    match n, hn, hN with
    | 0, hn, _ =>
      unfold Dat.left
      rw [live0_6 (t := ⟨0 + 1 - 1, _⟩) rfl]
      unfold Dat.kept
      rw [Pipeline.fill_of_clip_none 6 _ (fun _ => rfl) d ((dats m 0 c).after 6 _), Window.fill_cut]
      exact after0_6 m c _
    | k + 1, hn, hN =>
      unfold Dat.left
      rw [idle0_6 (t := ⟨k + 1 + 1 - 1, _⟩) (by dsimp only; omega)]
      exact before0_6 c k (Nat.lt_of_succ_lt hn) d

/-- The same at a point given as not the first. -/
theorem before0_5' (c : Dev nD) (t : Fin cfg0.N) (h : ¬t.val % 16 = 0) (d) : (dats m 0 c).before 5 t d = codes (acts m c) := by
  obtain ⟨n, hn⟩ := t
  match n, hn, h with
  | 0, _, h => exact absurd rfl h
  | n + 1, hn, _ => exact before0_5 m c n hn d
/-- The same at a point given as not the first. -/
theorem before0_6' (c : Dev nD) (t : Fin cfg0.N) (h : ¬t.val % 16 = 0) (d) : (dats m 0 c).before 6 t d = scales (acts m c) := by
  obtain ⟨n, hn⟩ := t
  match n, hn, h with
  | 0, _, h => exact absurd rfl h
  | n + 1, hn, _ => exact before0_6 m c n hn d

/-- At a point but the first, the codes' buffer holding the codes is what the body has to leave there, whether or not the
    point writes it back. -/
theorem leaves0_5 (c : Dev nD) (t : Fin cfg0.N) (h : ¬t.val % 16 = 0) :
    owns (c : Thread nD τ) (st0_5 t) fullShare (codes (acts m c)) ⊢ ((dats m 0 c).leavesExact 5 t : sProp 𝕄) := by
  unfold Dat.leavesExact
  rw [idle0_5 h]
  cases hf : (cfg0.win 5).flush t
  · iintro H
    iexists (codes (acts m c))
    rw [before0_5' m c t h]
    iexact H
  · exact .rfl
/-- Likewise the scales' buffer. -/
theorem leaves0_6 (c : Dev nD) (t : Fin cfg0.N) (h : ¬t.val % 16 = 0) :
    owns (c : Thread nD τ) (st0_6 t) fullShare (scales (acts m c)) ⊢ ((dats m 0 c).leavesExact 6 t : sProp 𝕄) := by
  unfold Dat.leavesExact
  rw [idle0_6 h]
  cases hf : (cfg0.win 6).flush t
  · iintro H
    iexists (scales (acts m c))
    rw [before0_6' m c t h]
    iexact H
  · exact .rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point does what it has to: by cases on whether the point is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare
      (yBlock (codes (acts m c)) (iblk m c 1 t) (scales (acts m c)) (iblk m c 2 t) (iblk m c 3 t)) from rfl]
  by_cases h0 : t.val % 16 = 0
  · rw [show (dats m 0 c).leavesExact 5 t = owns (c : Thread nD τ) (st0_5 t) fullShare ((dats m 0 c).after 5 t) from by
      unfold Dat.leavesExact; rw [live0_5 h0], after0_5]
    rw [show (dats m 0 c).leavesExact 6 t = owns (c : Thread nD τ) (st0_6 t) fullShare ((dats m 0 c).after 6 t) from by
      unfold Dat.leavesExact; rw [live0_6 h0], after0_6]
    iintro ⟨HΦ, Howe, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ ((isFirst_iff t).mpr h0) (iblk m c 0 t) (iblk m c 1 t)
      (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Howe]; · iexact Howe
    isplitl [H0]; · iexact H0
    isplitl [H1]; · iexact H1
    isplitl [H2]; · iexact H2
    isplitl [H3]; · iexact H3
    isplitl [H4]; · iexact H4
    isplitl [H5]; · iexact H5
    iexact H6
  · simp only [before0_5' m c t h0, before0_6' m c t h0]
    iintro ⟨HΦ, Howe, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ (fun h => h0 ((isFirst_iff t).mp h)) (iblk m c 0 t) (iblk m c 1 t)
      (iblk m c 2 t) (iblk m c 3 t) (codes (acts m c)) (scales (acts m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Howe]; · iexact Howe
    isplitl [H0]; · iexact H0
    isplitl [H1]; · iexact H1
    isplitl [H2]; · iexact H2
    isplitl [H3]; · iexact H3
    isplitl [H4]; · iexact H4
    isplitl [H5]
    · iapply (leaves0_5 m c t h0); iexact H5
    iapply (leaves0_6 m c t h0); iexact H6

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: it ends, each window's array holding what the write-backs left, every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.KernelFrame.lean ====
/-
  The kernel's frame at words: the kernel is the ideal program, text for text, and the run of that is proved for any floats.
-/
module

public import proofs.«01_k».proof.Defs
public import proofs.«01_k».proof.Proof.Gen.Kernel
public import proofs.«01_k».proof.Proof.IdealRun

@[expose] public section

noncomputable section

namespace Cert.Kernel.Own

open Idealize.ShloMosaic Idealize.ShloMosaic.TcCoe Idealize.SL.Sem

variable {F : FTy → Type} [FloatOps F]

/-- The kernel's body is the ideal program's. -/
theorem defs₀_eq : Cert.Kernel.defs₀ (F := F) = Cert.KernelIdeal.defs₀ := by
  unfold Cert.Kernel.defs₀ Cert.KernelIdeal.defs₀
  congr 1
  funext l a
  match l, a with
  | 0, (t, s) => rfl

/-- So is its table of bodies. -/
theorem defs_eq : Cert.Kernel.defs (F := F) = Cert.KernelIdeal.defs :=
  congrArg (Pipeline.defs Cert.KernelIdeal.pcfgs) defs₀_eq

/-- THE FRAME: the kernel's run ends with the arguments as they were and every counter at zero. -/
theorem frame [hKernel : Cert.Kernel.Facts] : Cert.quiescent_Kernel := by
  intro m ρ _
  have h := Cert.KernelIdeal.Own.frame (F := Bits) m ρ
  rw [← defs_eq] at h
  exact h

end Cert.Kernel.Own

end
-- ==== Proof.Product.lean ====
/-
  The result at an index: row times column of the codes and the weights, times the two scales, plus the residual. Both the
  kernel's block and the reference's whole array are this.
-/
module

public import proofs.«01_k».proof.Proof.IdealBody
public import proofs.«01_k».proof.Proof.Gen.ReferenceIdeal.Skeleton
public import Idealize.ShloMosaic.Lib.MatmulPlain
public import Idealize.ShloMosaic.Lib.Pipeline.Value
public import Idealize.ShloMosaic.Lib.ValueIdx

@[expose] public section

noncomputable section

namespace Cert.Own

open Idealize.ShloMosaic Idealize.ShloMosaic.ValueIdx
open scoped BigOperators

/-- The result at row `i` of the activations and column `j` of the weights. -/
def yAt {N : ℕ} (q : (⟨2, ![768, 2048]⟩ : Shape).Idx → EReal) (w : (⟨2, ![2048, N]⟩ : Shape).Idx → EReal) (s : (⟨2, ![768, 1]⟩ : Shape).Idx → EReal)
    (ws : (⟨2, ![1, N]⟩ : Shape).Idx → EReal) (r : (⟨2, ![768, N]⟩ : Shape).Idx → EReal) (i : Fin 768) (j : Fin N) : EReal :=
  (∑ k : Fin 2048, q (ix2 i k) * w (ix2 k j)) * s (ix2 i 0) * ws (ix2 0 j) + r (ix2 i j)

/-- A column spread over `N` columns, at an index. -/
theorem spread_col {N : ℕ} (hN : N ≠ 1) (v : (⟨2, ![768, 1]⟩ : Shape).Idx → EReal) (h : (⟨2, ![768, 1]⟩ : Shape).Broadcasts ⟨2, ![768, N]⟩) (i : Fin 768) (j : Fin N) :
    broadcastTo ⟨2, ![768, N]⟩ v h (ix2 i j) = v (ix2 i 0) :=
  broadcastTo_apply v h (ix2 i j) (ix2 i 0) fun a => by
    match a with
    | ⟨0, _⟩ => rfl
    | ⟨1, _⟩ => rfl

/-- A row spread over 768 rows, at an index. -/
theorem spread_row {N : ℕ} (hN : N ≠ 1) (v : (⟨2, ![1, N]⟩ : Shape).Idx → EReal) (h : (⟨2, ![1, N]⟩ : Shape).Broadcasts ⟨2, ![768, N]⟩) (i : Fin 768) (j : Fin N) :
    broadcastTo ⟨2, ![768, N]⟩ v h (ix2 i j) = v (ix2 0 j) :=
  broadcastTo_apply v h (ix2 i j) (ix2 0 j) fun a => by
    match a with
    | ⟨0, _⟩ => rfl
    | ⟨1, _⟩ => exact (if_neg hN).symm

/-- The product of codes and weights, at an index. -/
theorem product_apply {N : ℕ} (q : FVec Ideal ⟨2, ![768, 2048]⟩ .fp8e4m3) (w : FVec Ideal ⟨2, ![2048, N]⟩ .fp8e4m3) (i : Fin 768) (j : Fin N) :
    FloatOps.matmul (DotDims.plain 768 2048 N) none q w (constant ⟨2, ![768, N]⟩ .f32 0x00000000#32) (ix2 i j) = ∑ k : Fin 2048, q (ix2 i k) * w (ix2 k j) := by
  rw [Ideal.matmul_plain_apply, constant_apply]
  rw [show Ideal.ofBits .f32 0x00000000#32 = (0 : EReal) from by
    show Ideal.ieee 8 23 (0x00000000#32 : BitVec 32) = _
    unfold Ideal.ieee
    simp]
  exact zero_add _

/-- The whole computation of a block of the result, in vector form. -/
def yVec {N : ℕ} (q : FVec Ideal ⟨2, ![768, 2048]⟩ .fp8e4m3) (w : FVec Ideal ⟨2, ![2048, N]⟩ .fp8e4m3) (s : FVec Ideal ⟨2, ![768, 1]⟩ .f32)
    (ws : FVec Ideal ⟨2, ![1, N]⟩ .f32) (r : FVec Ideal ⟨2, ![768, N]⟩ .bf16) (h1 : (⟨2, ![768, 1]⟩ : Shape).Broadcasts ⟨2, ![768, N]⟩)
    (h2 : (⟨2, ![1, N]⟩ : Shape).Broadcasts ⟨2, ![768, N]⟩) (h3 : FTy.bits .bf16 < FTy.bits .f32) : FVec Ideal ⟨2, ![768, N]⟩ .bf16 :=
  truncf .bf16 (addf (mulf (mulf (FloatOps.matmul (DotDims.plain 768 2048 N) none q w (constant ⟨2, ![768, N]⟩ .f32 0x00000000#32))
    (broadcastTo ⟨2, ![768, N]⟩ s h1)) (broadcastTo ⟨2, ![768, N]⟩ ws h2)) (extf .f32 r h3)) h3

/-- It is the result at each index. -/
theorem yVec_apply {N : ℕ} (hN : N ≠ 1) (q : FVec Ideal ⟨2, ![768, 2048]⟩ .fp8e4m3) (w : FVec Ideal ⟨2, ![2048, N]⟩ .fp8e4m3) (s : FVec Ideal ⟨2, ![768, 1]⟩ .f32)
    (ws : FVec Ideal ⟨2, ![1, N]⟩ .f32) (r : FVec Ideal ⟨2, ![768, N]⟩ .bf16) (h1 : (⟨2, ![768, 1]⟩ : Shape).Broadcasts ⟨2, ![768, N]⟩)
    (h2 : (⟨2, ![1, N]⟩ : Shape).Broadcasts ⟨2, ![768, N]⟩) (h3 : FTy.bits .bf16 < FTy.bits .f32) (i : Fin 768) (j : Fin N) :
    yVec q w s ws r h1 h2 h3 (ix2 i j) = yAt q w s ws r i j := by
  have e : yVec q w s ws r h1 h2 h3 (ix2 i j)
      = (FloatOps.matmul (DotDims.plain 768 2048 N) none q w (constant ⟨2, ![768, N]⟩ .f32 0x00000000#32) (ix2 i j) * broadcastTo ⟨2, ![768, N]⟩ s h1 (ix2 i j)
        * broadcastTo ⟨2, ![768, N]⟩ ws h2 (ix2 i j) + r (ix2 i j) : EReal) := rfl
  rw [e, product_apply]
  unfold yAt
  rw [← spread_col hN s h1 i j, ← spread_row hN ws h2 i j]

/-- The kernel's block of the result. -/
theorem yBlock_eq (q : Vec Ideal Cert.KernelIdeal.S768x2048 .fp8e4m3) (w : Vec Ideal Cert.KernelIdeal.S2048x512 .fp8e4m3) (s : Vec Ideal Cert.KernelIdeal.S768x1 .f32)
    (ws : Vec Ideal Cert.KernelIdeal.S1x512 .f32) (r : Vec Ideal Cert.KernelIdeal.S768x512 .bf16) :
    Cert.KernelIdeal.Own.yBlock q w s ws r = yVec q w s ws r Cert.KernelIdeal.Gen.broadcasts_S768x1_S768x512 Cert.KernelIdeal.Gen.broadcasts_S1x512_S768x512
      Cert.KernelIdeal.Gen.bitsLt_bf16_f32 := by
  unfold Cert.KernelIdeal.Own.yBlock Cert.KernelIdeal.Gen.k0_pay4 yVec
  simp only [shapeCast_self]
  rfl

/-- The reference's result. -/
theorem ref_y_eq (x : Vec Ideal Cert.ReferenceIdeal.S768x2048 .bf16) (w : Vec Ideal Cert.ReferenceIdeal.S2048x8192 .fp8e4m3)
    (ws : Vec Ideal Cert.ReferenceIdeal.S1x8192 .f32) (r : Vec Ideal Cert.ReferenceIdeal.S768x8192 .bf16) :
    Cert.ReferenceIdeal.Gen.k0_pay1 (Cert.ReferenceIdeal.Gen.k0_pay6 x w) ws r
      = yVec (Cert.ReferenceIdeal.Gen.k0_pay5 x) w (Cert.ReferenceIdeal.Gen.k0_pay4 x) ws r Cert.ReferenceIdeal.Gen.broadcasts_S768x1_S768x8192
        Cert.ReferenceIdeal.Gen.broadcasts_S1x8192_S768x8192 Cert.ReferenceIdeal.Gen.bitsLt_bf16_f32 := by
  unfold Cert.ReferenceIdeal.Gen.k0_pay1 Cert.ReferenceIdeal.Gen.k0_pay6 yVec
  simp only [shapeCast_self]
  rfl

end Cert.Own

end
-- ==== Proof.Arrays.lean ====
/-
  The arrays that the kernel leaves: block by block, the results at each index of the arrays as the grid finds them.
-/
module

public import proofs.«01_k».proof.Proof.IdealRun
public import proofs.«01_k».proof.Proof.Product
public import Idealize.ShloMosaic.Lib.Pipeline.ValueKit

@[expose] public section

noncomputable section

namespace Cert.KernelIdeal.Own

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The activations are the first array, whole. -/
theorem acts_eq (c : Dev nD) : acts m c = V m c main_v0 := by
  have e : ∀ t : Fin cfg0.N, win0_0.index t = ![0, 0] := (by decide +kernel : ∀ t : Fin grid0.N, win0_0.index t = ![0, 0])
  unfold acts
  funext y
  blk_simp [iblk]
  blk_ext [e]

/-- The weights' block at point `t`: its columns stand at `512 * t`. -/
theorem iblk_w (c : Dev nD) (t : Fin cfg0.N) (k : Fin 2048) (j : Fin 512) (h : 512 * t.val + j.val < 8192) :
    iblk m c 1 t (ValueIdx.ix2 k j) = V m c main_arg1 (ValueIdx.ix2 k ⟨512 * t.val + j.val, h⟩) := by
  have e : ∀ t : Fin cfg0.N, win0_1.index t = ![0, t.val] := (by decide +kernel : ∀ t : Fin grid0.N, win0_1.index t = ![0, t.val])
  blk_simp [iblk]
  blk_ext [e]
  show t.val * 512 + j.val = 512 * t.val + j.val
  omega

/-- The weights' scales at point `t`. -/
theorem iblk_ws (c : Dev nD) (t : Fin cfg0.N) (i : Fin 1) (j : Fin 512) (h : 512 * t.val + j.val < 8192) :
    iblk m c 2 t (ValueIdx.ix2 i j) = V m c main_v1 (ValueIdx.ix2 i ⟨512 * t.val + j.val, h⟩) := by
  have e : ∀ t : Fin cfg0.N, win0_2.index t = ![0, t.val] := (by decide +kernel : ∀ t : Fin grid0.N, win0_2.index t = ![0, t.val])
  blk_simp [iblk]
  blk_ext [e]
  show t.val * 512 + j.val = 512 * t.val + j.val
  omega

/-- The residual's block at point `t`. -/
theorem iblk_r (c : Dev nD) (t : Fin cfg0.N) (i : Fin 768) (j : Fin 512) (h : 512 * t.val + j.val < 8192) :
    iblk m c 3 t (ValueIdx.ix2 i j) = V m c main_v2 (ValueIdx.ix2 i ⟨512 * t.val + j.val, h⟩) := by
  have e : ∀ t : Fin cfg0.N, win0_3.index t = ![0, t.val] := (by decide +kernel : ∀ t : Fin grid0.N, win0_3.index t = ![0, t.val])
  blk_simp [iblk]
  blk_ext [e]
  show t.val * 512 + j.val = 512 * t.val + j.val
  omega

/-- The result array after the run. -/
theorem final_y (c : Dev nD) : (dats m 0 c).arrAt 4 cfg0.N
    = fun y : S768x8192.Idx => Cert.Own.yAt (codes (acts m c)) (V m c main_arg1) (scales (acts m c)) (V m c main_v1) (V m c main_v2) (y 0) (y 1) := by
  have e : ∀ t : Fin cfg0.N, win0_4.index t = ![0, t.val] := (by decide +kernel : ∀ t : Fin grid0.N, win0_4.index t = ![0, t.val])
  refine (dats m 0 c).arrAt_eq_of_covers 4 _ (by decide +kernel) fun t hf y => ?_
  blk_simp
  rw [after0_4, Cert.Own.yBlock_eq]
  obtain ⟨i, j, rfl⟩ : ∃ (i : Fin 768) (j : Fin 512), y = ValueIdx.ix2 i j := ⟨_, _, ValueIdx.eq_ix2 y⟩
  have ht : t.val < 16 := t.isLt
  have hj : 512 * t.val + j.val < 8192 := by have := j.isLt; omega
  have e0 : (win0_4.blk t).view.emb (ValueIdx.ix2 i j) 0 = i := by
    apply Fin.ext
    blk_simp [e]
    rfl
  have e1 : (win0_4.blk t).view.emb (ValueIdx.ix2 i j) 1 = ⟨512 * t.val + j.val, hj⟩ := by
    apply Fin.ext
    blk_simp [e]
    show t.val * 512 + j.val = 512 * t.val + j.val
    omega
  rw [e0, e1]
  refine (Cert.Own.yVec_apply (by decide) _ _ _ _ _ _ _ _ i j).trans ?_
  unfold Cert.Own.yAt
  rw [iblk_ws m c t 0 j hj, iblk_r m c t i j hj]
  simp only [iblk_w m c t _ j hj]
  rfl

/-- The codes' array after the run. -/
theorem final_q (c : Dev nD) : (dats m 0 c).arrAt 5 cfg0.N = codes (acts m c) := by
  have e : ∀ t : Fin cfg0.N, win0_5.index t = ![0, 0] := (by decide +kernel : ∀ t : Fin grid0.N, win0_5.index t = ![0, 0])
  have ha : ∀ t : Fin cfg0.N, (dats m 0 c).after 5 t = codes (acts m c) := after0_5 m c
  generalize codes (acts m c) = g at ha ⊢
  refine (dats m 0 c).arrAt_eq_of_covers 5 _ (by decide +kernel) fun t hf y => ?_
  blk_simp
  rw [ha]
  blk_ext [e]

/-- The scales' array after the run. -/
theorem final_s (c : Dev nD) : (dats m 0 c).arrAt 6 cfg0.N = scales (acts m c) := by
  have e : ∀ t : Fin cfg0.N, win0_6.index t = ![0, 0] := (by decide +kernel : ∀ t : Fin grid0.N, win0_6.index t = ![0, 0])
  have ha : ∀ t : Fin cfg0.N, (dats m 0 c).after 6 t = scales (acts m c) := after0_6 m c
  generalize scales (acts m c) = g at ha ⊢
  refine (dats m 0 c).arrAt_eq_of_covers 6 _ (by decide +kernel) fun t hf y => ?_
  blk_simp
  rw [ha]
  blk_ext [e]

end Cert.KernelIdeal.Own

end
-- ==== Proof.Exponent.lean ====
/-
  The exponent of a positive number, found in two ways, on the extended reals: by binary search among the powers of two that
  f32 words with an empty significand denote, and as the floor of the logarithm to base 2. Both give the same power-of-two
  scale and the same reciprocal of it.
-/
module

public import Idealize.ShloMosaic.PureOps
public import Idealize.ShloMosaic.PureOps.Ideal.Laws
public import Idealize.ShloMosaic.Lib.ValueIdx

@[expose] public section

noncomputable section

namespace Cert.Own

open Idealize.ShloMosaic

/-- What the f32 word with exponent field `n` and an empty sign and significand denotes. -/
def pow2 (n : ℕ) : EReal := Ideal.ofBits .f32 (BitVec.ofNat 32 n <<< 23)

/-- Its fields. -/
theorem ieee_shift (n : ℕ) (hn : n < 256) : Ideal.ofBits .f32 (BitVec.ofNat 32 n <<< 23)
    = if n = 255 then ⊤ else if n = 0 then 0 else (((2 : ℝ) ^ ((n : ℤ) - 127) : ℝ) : EReal) := by
  have e1 : (BitVec.ofNat 32 n <<< 23 : BitVec 32).toNat = n * 2 ^ 23 := by
    rw [BitVec.toNat_shiftLeft, BitVec.toNat_ofNat, Nat.shiftLeft_eq]; omega
  have hneg : ((BitVec.ofNat 32 n <<< 23 : BitVec 32).extractLsb' (8 + 23) 1 == 1#1) = false := by
    rw [beq_eq_false_iff_ne]
    intro h
    have := congrArg BitVec.toNat h
    rw [BitVec.extractLsb'_toNat, e1, Nat.shiftRight_eq_div_pow] at this
    simp at this; omega
  have hex : ((BitVec.ofNat 32 n <<< 23 : BitVec 32).extractLsb' 23 8).toNat = n := by
    rw [BitVec.extractLsb'_toNat, e1, Nat.shiftRight_eq_div_pow]; omega
  have hfr : ((BitVec.ofNat 32 n <<< 23 : BitVec 32).extractLsb' 0 23).toNat = 0 := by
    rw [BitVec.extractLsb'_toNat, e1, Nat.shiftRight_eq_div_pow]; omega
  show Ideal.ieee 8 23 (BitVec.ofNat 32 n <<< 23 : BitVec 32) = _
  unfold Ideal.ieee
  simp only [hneg, hex, hfr]
  by_cases h1 : n = 255
  · subst h1; simp
  · by_cases h2 : n = 0
    · subst h2; simp
    · have h3 : ¬n = 2 ^ 8 - 1 := by omega
      rw [if_neg h3, if_neg h2, if_neg h1, if_neg h2]
      norm_num
      rw [show (8388608 : ℝ) = (2 : ℝ) ^ (23 : ℤ) by norm_num, ← EReal.coe_mul, ← zpow_add₀ (by norm_num : (2 : ℝ) ≠ 0),
        show (23 : ℤ) + ((n : ℤ) - 127 - 23) = (n : ℤ) - 127 by ring]

/-- Field 0 denotes zero. -/
theorem pow2_zero : pow2 0 = 0 := by unfold pow2; rw [ieee_shift 0 (by norm_num)]; simp
/-- Field 255 denotes infinity. -/
theorem pow2_top : pow2 255 = ⊤ := by unfold pow2; rw [ieee_shift 255 (by norm_num)]; simp
/-- A field between denotes its power of two. -/
theorem pow2_mid (n : ℕ) (h0 : 1 ≤ n) (h1 : n ≤ 254) : pow2 n = (((2 : ℝ) ^ ((n : ℤ) - 127) : ℝ) : EReal) := by
  unfold pow2; rw [ieee_shift n (by omega), if_neg (by omega), if_neg (by omega)]

/-- The greater the field, the greater the number. -/
theorem pow2_mono {n k : ℕ} (h : n ≤ k) (hk : k ≤ 255) : pow2 n ≤ pow2 k := by
  by_cases h1 : k = 255
  · subst h1; rw [pow2_top]; exact le_top
  have hk' : k ≤ 254 := by omega
  by_cases h0 : n = 0
  · subst h0; rw [pow2_zero]
    by_cases h2 : k = 0
    · subst h2; rw [pow2_zero]
    · rw [pow2_mid k (by omega) hk']; exact_mod_cast (by positivity : (0 : ℝ) ≤ 2 ^ ((k : ℤ) - 127))
  · rw [pow2_mid n (by omega) (by omega), pow2_mid k (by omega) hk']
    exact_mod_cast zpow_le_zpow_right₀ (by norm_num : (1 : ℝ) ≤ 2) (by omega : (n : ℤ) - 127 ≤ (k : ℤ) - 127)

/-- One step of the search: the field goes up by `b` if the number with the greater field is not above `w`. -/
def step (w : EReal) (E b : BitVec 32) : BitVec 32 :=
  Scalar.select (Ideal.cmp .oge w (Ideal.ofBits .f32 (IntOp.shli .vector (IntOp.addi E b) 23#32))) (IntOp.addi E b) E

/-- A step on fields given as numbers. -/
theorem step_nat (w : EReal) (n b : ℕ) :
    step w (BitVec.ofNat 32 n) (BitVec.ofNat 32 b) = BitVec.ofNat 32 (if pow2 (n + b) ≤ w then n + b else n) := by
  have e : IntOp.addi (BitVec.ofNat 32 n) (BitVec.ofNat 32 b) = BitVec.ofNat 32 (n + b) :=
    (BitVec.ofNat_add n b).symm
  unfold step
  rw [e]
  show Scalar.select (Ideal.cmp .oge w (pow2 (n + b))) _ _ = _
  by_cases h : pow2 (n + b) ≤ w
  · rw [if_pos h]; simp [Scalar.select, Ideal.cmp, h]
  · rw [if_neg h]; simp [Scalar.select, Ideal.cmp, h]

/-- The field the search has at hand: it is not too great, and those `r` or more above it are. -/
def Found (w : EReal) (r n : ℕ) : Prop := n + r ≤ 256 ∧ pow2 n ≤ w ∧ ∀ k, n + r ≤ k → k ≤ 255 → w < pow2 k

/-- A step halves the range. -/
theorem found_step {w : EReal} {b n : ℕ} (hb : 0 < b) (h : Found w (b + b) n) :
    Found w b (if pow2 (n + b) ≤ w then n + b else n) := by
  obtain ⟨h1, h2, h3⟩ := h
  by_cases hc : pow2 (n + b) ≤ w
  · rw [if_pos hc]; exact ⟨by omega, hc, fun k hk hk' => h3 k (by omega) hk'⟩
  · rw [if_neg hc]
    exact ⟨by omega, h2, fun k hk hk' => lt_of_lt_of_le (not_le.mp hc) (pow2_mono hk hk')⟩

/-- One step, as words and as numbers. -/
theorem step_found {w : EReal} {b : ℕ} (hb : 0 < b) {E : BitVec 32} (h : ∃ n, E = BitVec.ofNat 32 n ∧ Found w (b + b) n) :
    ∃ n, step w E (BitVec.ofNat 32 b) = BitVec.ofNat 32 n ∧ Found w b n := by
  obtain ⟨n, rfl, hn⟩ := h
  exact ⟨_, step_nat w n b, found_step hb hn⟩

/-- The eight steps. -/
def field (w : EReal) : BitVec 32 :=
  step w (step w (step w (step w (step w (step w (step w (step w 0#32 128#32) 64#32) 32#32) 16#32) 8#32) 4#32) 2#32) 1#32

/-- The search finds the greatest field whose number is not above `w`. -/
theorem field_found (w : EReal) (hw : 0 ≤ w) : ∃ n, field w = BitVec.ofNat 32 n ∧ n ≤ 255 ∧ pow2 n ≤ w ∧ ∀ k, n < k → k ≤ 255 → w < pow2 k := by
  have h : ∃ n, (0#32 : BitVec 32) = BitVec.ofNat 32 n ∧ Found w (128 + 128) n :=
    ⟨0, rfl, by omega, by rw [pow2_zero]; exact hw, fun k hk hk' => absurd hk (by omega)⟩
  obtain ⟨n, e, h1, h2, h3⟩ := step_found (b := 1) (by omega) (step_found (b := 2) (by omega) (step_found (b := 4) (by omega)
    (step_found (b := 8) (by omega) (step_found (b := 16) (by omega) (step_found (b := 32) (by omega)
      (step_found (b := 64) (by omega) (step_found (b := 128) (by omega) h)))))))
  exact ⟨n, e, by omega, h2, fun k hk hk' => h3 k (by omega) hk'⟩

/-- Fields 0 and 255, which give no exponent, become that of one half. -/
def patched (E : BitVec 32) : BitVec 32 :=
  Scalar.select (IntOp.ori (IntOp.cmpi .eq E 0#32) (IntOp.cmpi .eq E 255#32)) 126#32 E

/-- The scale made of a field: its word's exponent is one more. -/
def scaleOf (E : BitVec 32) : EReal := Ideal.ofBits .f32 (IntOp.shli .vector (IntOp.addi (patched E) 1#32) 23#32)
/-- The scale's reciprocal made of a field. -/
def invOf (E : BitVec 32) : EReal := Ideal.ofBits .f32 (IntOp.shli .vector (IntOp.subi 253#32 (patched E)) 23#32)

/-- A field that gives an exponent stays. -/
theorem patched_mid (n : ℕ) (h0 : 1 ≤ n) (h1 : n ≤ 254) : patched (BitVec.ofNat 32 n) = BitVec.ofNat 32 n := by
  have a : ¬(BitVec.ofNat 32 n = 0#32) := fun h => by
    have := congrArg BitVec.toNat h; simp at this; omega
  have b : ¬(BitVec.ofNat 32 n = 255#32) := fun h => by
    have := congrArg BitVec.toNat h; simp at this; omega
  have a' : (BitVec.ofNat 32 n == 0#32) = false := beq_eq_false_iff_ne.mpr a
  have b' : (BitVec.ofNat 32 n == 255#32) = false := beq_eq_false_iff_ne.mpr b
  simp [patched, Scalar.select, IntOp.cmpi, IntOp.ori, a', b', a, b]

/-- The scale of a field that gives an exponent. -/
theorem scaleOf_mid (n : ℕ) (h0 : 1 ≤ n) (h1 : n ≤ 252) : scaleOf (BitVec.ofNat 32 n) = (((2 : ℝ) ^ ((n : ℤ) - 126) : ℝ) : EReal) := by
  unfold scaleOf
  rw [patched_mid n h0 (by omega)]
  have e : IntOp.addi (BitVec.ofNat 32 n) 1#32 = BitVec.ofNat 32 (n + 1) := (BitVec.ofNat_add n 1).symm
  rw [e]
  show pow2 (n + 1) = _
  rw [pow2_mid _ (by omega) (by omega), show ((n + 1 : ℕ) : ℤ) - 127 = (n : ℤ) - 126 by push_cast; ring]

/-- The reciprocal of the scale of a field that gives an exponent. -/
theorem invOf_mid (n : ℕ) (h0 : 1 ≤ n) (h1 : n ≤ 252) : invOf (BitVec.ofNat 32 n) = (((2 : ℝ) ^ (126 - (n : ℤ)) : ℝ) : EReal) := by
  unfold invOf
  rw [patched_mid n h0 (by omega)]
  have e : IntOp.subi 253#32 (BitVec.ofNat 32 n) = BitVec.ofNat 32 (253 - n) := by
    apply BitVec.eq_of_toNat_eq
    show (253#32 - BitVec.ofNat 32 n).toNat = _
    rw [BitVec.toNat_sub]; simp; omega
  rw [e]
  show pow2 (253 - n) = _
  rw [pow2_mid _ (by omega) (by omega), show ((253 - n : ℕ) : ℤ) - 127 = 126 - (n : ℤ) by omega]

/-- The scale of the two fields that give no exponent is 1. -/
theorem scaleOf_none (E : BitVec 32) (h : E = 0#32 ∨ E = 255#32) : scaleOf E = 1 := by
  have e : patched E = BitVec.ofNat 32 126 := by rcases h with rfl | rfl <;> rfl
  unfold scaleOf; rw [e]
  show pow2 127 = 1
  rw [pow2_mid _ (by omega) (by omega)]; norm_num
/-- So is its reciprocal. -/
theorem invOf_none (E : BitVec 32) (h : E = 0#32 ∨ E = 255#32) : invOf E = 1 := by
  have e : patched E = BitVec.ofNat 32 126 := by rcases h with rfl | rfl <;> rfl
  unfold invOf; rw [e]
  show pow2 127 = 1
  rw [pow2_mid _ (by omega) (by omega)]; norm_num

/-- The exponent by the logarithm: of `v` where `v` is a positive normal number, 0 elsewhere and for a row of zeros. -/
def expo (a v : EReal) : EReal :=
  Scalar.select (Ideal.cmp .oeq a (Ideal.ofBits .f32 0x00000000#32)) (Ideal.ofBits .f32 0x00000000#32)
    (Scalar.select (IntOp.andi (Ideal.cmp .oge v (Ideal.ofBits .f32 0x00800000#32)) (Ideal.cmp .olt v (Ideal.ofBits .f32 0x7F800000#32)))
      (Ideal.liftRound Int.floor (Ideal.div (Ideal.log v) (Ideal.log (Ideal.ofBits .f32 0x40000000#32))) + Ideal.ofBits .f32 0x3F800000#32)
      (Ideal.ofBits .f32 0x00000000#32))

/-- The word of the least normal number denotes its value. -/
theorem tiny_eq : Ideal.ofBits .f32 0x00800000#32 = pow2 1 := rfl
/-- The word of infinity denotes it. -/
theorem inf_eq : Ideal.ofBits .f32 0x7F800000#32 = ⊤ := pow2_top
/-- The word of 2. -/
theorem two_eq : Ideal.ofBits .f32 0x40000000#32 = ((2 : ℝ) : EReal) :=
  (pow2_mid 128 (by omega) (by omega)).trans (by norm_num)
/-- The word of 1. -/
theorem one_eq : Ideal.ofBits .f32 0x3F800000#32 = ((1 : ℝ) : EReal) :=
  (pow2_mid 127 (by omega) (by omega)).trans (by norm_num)

/-- The exponent of a normal number between two neighbouring powers of two. -/
theorem expo_mid (a : EReal) (ha : a ≠ 0) (r : ℝ) (n : ℕ) (h0 : 1 ≤ n) (hlo : (2 : ℝ) ^ ((n : ℤ) - 127) ≤ r)
    (hhi : r < (2 : ℝ) ^ ((n : ℤ) - 126)) : expo a r = (((n : ℤ) - 126 : ℤ) : ℝ) := by
  have hr : 0 < r := lt_of_lt_of_le (by positivity) hlo
  have htiny : pow2 1 ≤ (r : EReal) := by
    rw [pow2_mid 1 (by omega) (by omega)]
    exact_mod_cast le_trans (zpow_le_zpow_right₀ (by norm_num : (1 : ℝ) ≤ 2) (by push_cast; omega : ((1 : ℕ) : ℤ) - 127 ≤ (n : ℤ) - 127)) hlo
  have hfl : ⌊Real.log r / Real.log 2⌋ = (n : ℤ) - 127 := by
    have hl2 : 0 < Real.log 2 := Real.log_pos (by norm_num)
    rw [Int.floor_eq_iff]
    constructor
    · rw [le_div_iff₀ hl2, ← Real.log_zpow]
      exact Real.log_le_log (by positivity) hlo
    · rw [div_lt_iff₀ hl2, show ((((n : ℤ) - 127 : ℤ) : ℝ) + 1) = (((n : ℤ) - 126 : ℤ) : ℝ) by push_cast; ring, ← Real.log_zpow]
      exact Real.log_lt_log hr hhi
  have hdiv : Ideal.div (Ideal.log (r : EReal)) (Ideal.log ((2 : ℝ) : EReal)) = ((Real.log r / Real.log 2 : ℝ) : EReal) := by
    have hl2 : Real.log 2 ≠ 0 := (Real.log_pos (by norm_num)).ne'
    rw [Ideal.log_coe, Ideal.log_coe, if_neg (not_le.mpr hr), if_neg (by norm_num), Ideal.div,
      if_neg (by exact_mod_cast hl2), ← EReal.coe_inv, ← EReal.coe_mul, div_eq_mul_inv]
  unfold expo
  rw [tiny_eq, inf_eq, two_eq, one_eq, Ideal.ofBits_zero_f32, hdiv, Ideal.liftRound_coe, hfl]
  have c1 : Ideal.cmp .oeq a 0 = 0#1 := by simp [Ideal.cmp, ha]
  have c2 : Ideal.cmp .oge (r : EReal) (pow2 1) = 1#1 := by simp [Ideal.cmp, htiny]
  have c3 : Ideal.cmp .olt (r : EReal) ⊤ = 1#1 := by simp [Ideal.cmp]
  have hsum : ((((n : ℤ) - 127 : ℤ) : ℝ) : EReal) + ((1 : ℝ) : EReal) = ((((n : ℤ) - 126 : ℤ) : ℝ) : EReal) := by
    rw [← EReal.coe_add]; congr 1; push_cast; ring
  rw [c1, c2, c3, hsum]
  rfl

/-- The exponent is 0 for a row of zeros, for a number below the least normal one, and for infinity. -/
theorem expo_none (a v : EReal) (h : v < pow2 1 ∨ v = ⊤) : expo a v = 0 := by
  unfold expo
  rw [tiny_eq, inf_eq, two_eq, one_eq, Ideal.ofBits_zero_f32]
  have c : IntOp.andi (Ideal.cmp .oge v (pow2 1)) (Ideal.cmp .olt v ⊤) = 0#1 := by
    rcases h with h | rfl
    · simp [Ideal.cmp, IntOp.andi, not_le.mpr h]
    · simp [Ideal.cmp, IntOp.andi]
  rw [c]
  simp [Scalar.select]

/-- A power of two with an integral exponent. -/
theorem exp2_int (z : ℤ) : Ideal.exp2 (((z : ℤ) : ℝ) : EReal) = (((2 : ℝ) ^ z : ℝ) : EReal) := by
  rw [Ideal.exp2_coe]
  congr 1
  exact Real.rpow_intCast 2 z

/-- THE TWO WAYS AGREE on the scale and on its reciprocal, for every number below 2^120 and for infinity. -/
theorem scales_agree (a v : EReal) (h0 : 0 ≤ v) (ha : v ≠ 0 → a ≠ 0) (h : v < pow2 247 ∨ v = ⊤) :
    scaleOf (field v) = Ideal.exp2 (expo a v) ∧ invOf (field v) = Ideal.exp2 (0 - expo a v) := by
  obtain ⟨n, e, hn, hlo, hhi⟩ := field_found v h0
  have none (hE : BitVec.ofNat 32 n = 0#32 ∨ BitVec.ofNat 32 n = 255#32) (hv : v < pow2 1 ∨ v = ⊤) :
      scaleOf (field v) = Ideal.exp2 (expo a v) ∧ invOf (field v) = Ideal.exp2 (0 - expo a v) := by
    have h1 : Ideal.exp2 0 = 1 := by
      have := exp2_int 0; simpa using this
    rw [e, scaleOf_none _ hE, invOf_none _ hE, expo_none a v hv, sub_zero, h1]
    exact ⟨rfl, rfl⟩
  rcases h with h | rfl
  · have hn' : n ≤ 246 := by
      by_contra hc
      exact absurd (le_trans (pow2_mono (by omega : 247 ≤ n) hn) hlo) (not_le.mpr h)
    by_cases hz : n = 0
    · subst hz; exact none (.inl rfl) (.inl (hhi 1 (by omega) (by omega)))
    · have hlo' := hlo
      have hhi' := hhi (n + 1) (by omega) (by omega)
      rw [pow2_mid n (by omega) (by omega)] at hlo'
      rw [pow2_mid (n + 1) (by omega) (by omega)] at hhi'
      have hpos : (0 : EReal) < v := lt_of_lt_of_le (by exact_mod_cast (by positivity : (0 : ℝ) < (2 : ℝ) ^ ((n : ℤ) - 127))) hlo'
      have htop : v ≠ ⊤ := ne_top_of_lt hhi'
      lift v to ℝ using ⟨htop, ne_bot_of_gt hpos⟩
      have hx : expo a (v : EReal) = (((n : ℤ) - 126 : ℤ) : ℝ) := by
        refine expo_mid a (ha hpos.ne') v n (by omega) (by exact_mod_cast hlo') ?_
        have : v < (2 : ℝ) ^ (((n + 1 : ℕ) : ℤ) - 127) := by exact_mod_cast hhi'
        rwa [show ((n + 1 : ℕ) : ℤ) - 127 = (n : ℤ) - 126 by push_cast; ring] at this
      rw [e, scaleOf_mid n (by omega) (by omega), invOf_mid n (by omega) (by omega), hx, exp2_int]
      refine ⟨rfl, ?_⟩
      rw [show (0 : EReal) - ((((n : ℤ) - 126 : ℤ) : ℝ) : EReal) = (((126 - (n : ℤ) : ℤ) : ℝ) : EReal) by
        rw [zero_sub, ← EReal.coe_neg]; congr 1; push_cast; ring, exp2_int]
  · have hz : n = 255 := by
      by_contra hc
      have := hhi 255 (by omega) (by omega)
      rw [pow2_top] at this
      exact absurd this (lt_irrefl _)
    subst hz
    exact none (.inr rfl) (.inr rfl)

end Cert.Own

end
-- ==== Proof.Quantise.lean ====
/-
  The quantiser: on activations that are infinite or at most the greatest finite bf16, the kernel's scales and codes are the
  reference's.
-/
module

public import proofs.«01_k».proof.Proof.IdealBody
public import proofs.«01_k».proof.Proof.Exponent
public import proofs.«01_k».proof.Proof.Gen.ReferenceIdeal.Skeleton

@[expose] public section

set_option maxRecDepth 16384

noncomputable section

namespace Cert.Own

open Idealize.ShloMosaic
open Cert.KernelIdeal (S768x2048 S768x1 S768)
open Cert.KernelIdeal.Gen (k0_pay1 k0_pay2 k0_pay3 k0_pay5 k0_pay6 k0_pay7 k0_pay8 k0_pay9 k0_pay10)

/-- The magnitude of an extended real. -/
abbrev size (x : EReal) : EReal := max x (-x)

/-- The greatest finite bf16. -/
def bf16Max : EReal := Ideal.ofBits .f32 0x7F7F0000#32

/-- A positive f32 word with a field between, taken apart. -/
theorem ieee_word (b : BitVec 32) (n k : ℕ) (hneg : (b.extractLsb' (8 + 23) 1 == 1#1) = false) (hex : (b.extractLsb' 23 8).toNat = n)
    (hfr : (b.extractLsb' 0 23).toNat = k) (h0 : n ≠ 0) (h1 : n ≠ 2 ^ 8 - 1) :
    Ideal.ofBits .f32 b = (((1 : ℝ) * ((2 ^ 23 + k : ℕ) : ℝ) * (2 : ℝ) ^ ((n : ℤ) - (2 ^ (8 - 1) - 1) - 23) : ℝ) : EReal) := by
  show Ideal.ieee 8 23 b = _
  unfold Ideal.ieee
  simp only [hneg, hex, hfr]
  rw [if_neg h1, if_neg h0]
  rfl

/-- It is below 2^128. -/
theorem bf16Max_lt : bf16Max < (((2 : ℝ) ^ (128 : ℤ) : ℝ) : EReal) := by
  unfold bf16Max
  rw [ieee_word 0x7F7F0000#32 254 8323072 (by decide) (by decide) (by decide) (by decide) (by decide)]
  refine EReal.coe_lt_coe_iff.mpr ?_
  norm_num

/-- The f32 nearest 1/448. -/
def factor : EReal := Ideal.ofBits .f32 0x3B124925#32

/-- It is positive and below 2^-8. -/
theorem factor_eq : ∃ r : ℝ, factor = (r : EReal) ∧ 0 < r ∧ r < (2 : ℝ) ^ (-8 : ℤ) := by
  refine ⟨_, ieee_word 0x3B124925#32 118 1198373 (by decide) (by decide) (by decide) (by decide) (by decide), by positivity, by norm_num⟩

/-- A row's number whose exponent is asked: 0 or above, below 2^120 or infinite, and not 0 unless the row's maximum is not. -/
theorem scaled_range (a : EReal) (h0 : 0 ≤ a) (h : a ≤ bf16Max ∨ a = ⊤) :
    0 ≤ a * factor ∧ (a * factor ≠ 0 → a ≠ 0) ∧ (a * factor < pow2 247 ∨ a * factor = ⊤) := by
  obtain ⟨r, e, hr, hr'⟩ := factor_eq
  rw [e]
  refine ⟨mul_nonneg h0 (by exact_mod_cast hr.le), fun h1 h2 => h1 (by rw [h2, zero_mul]), ?_⟩
  rcases h with h | rfl
  · left
    have hlt := lt_of_le_of_lt h bf16Max_lt
    lift a to ℝ using ⟨ne_top_of_lt hlt, ne_bot_of_gt (lt_of_lt_of_le (EReal.bot_lt_coe 0) h0)⟩
    have ha : a < (2 : ℝ) ^ (128 : ℤ) := by exact_mod_cast hlt
    have ha0 : 0 ≤ a := by exact_mod_cast h0
    rw [pow2_mid 247 (by omega) (by omega), ← EReal.coe_mul]
    have : a * r < (2 : ℝ) ^ (128 : ℤ) * (2 : ℝ) ^ (-8 : ℤ) := mul_lt_mul'' ha hr' ha0 hr.le
    rw [← zpow_add₀ (by norm_num : (2 : ℝ) ≠ 0)] at this
    exact_mod_cast this
  · right
    exact EReal.top_mul_coe_of_pos hr

/-- A row's maximum of magnitudes is 0 or above, and at most the greatest finite bf16 or infinite, if every magnitude is. -/
theorem fold_range {ι : Type} (s : Finset ι) (hs : s.Nonempty) (f : ι → EReal) (h : ∀ i ∈ s, size (f i) ≤ bf16Max ∨ size (f i) = ⊤) :
    0 ≤ s.fold max ⊥ (fun i => size (f i)) ∧ (s.fold max ⊥ (fun i => size (f i)) ≤ bf16Max ∨ s.fold max ⊥ (fun i => size (f i)) = ⊤) := by
  have hsize (x : EReal) : 0 ≤ size x := by
    rcases le_total 0 x with hx | hx
    · exact le_max_of_le_left hx
    · exact le_max_of_le_right (EReal.neg_nonneg.mpr hx)
  obtain ⟨i, hi⟩ := hs
  refine ⟨(Finset.le_fold_max _).mpr (.inr ⟨i, hi, hsize _⟩), ?_⟩
  by_cases ht : ∃ i ∈ s, size (f i) = ⊤
  · obtain ⟨j, hj, e⟩ := ht
    exact .inr (top_le_iff.mp ((Finset.le_fold_max _).mpr (.inr ⟨j, hj, e.ge⟩)))
  · refine .inl ((Finset.fold_max_le _).mpr ⟨bot_le, fun j hj => (h j hj).resolve_right fun e => ht ⟨j, hj, e⟩⟩)

/-- Every activation is infinite or at most the greatest finite bf16. -/
def InRange (x : Vec Ideal S768x2048 .bf16) : Prop := ∀ i, size (x i) ≤ bf16Max ∨ size (x i) = ⊤

/-- The rows' maxima of magnitudes, as a vector. -/
def rowMax0 (x : Vec Ideal S768x2048 .bf16) : FVec Ideal S768 .f32 :=
  multiReduction .maximumf [1] S768 (absf (Cert.KernelIdeal.Gen.k0_pay5 x)) 0xFF800000#32
    Cert.KernelIdeal.Gen.reduces_S768x2048_S768 (.inl rfl) rfl

/-- The rows' maxima of magnitudes, as a column. -/
def rowMax (x : Vec Ideal S768x2048 .bf16) : Vec Ideal S768x1 .f32 := shapeCast S768x1 (rowMax0 x) Cert.KernelIdeal.Gen.shapeCasts_S768_S768x1

/-- The word of minus infinity. -/
theorem bot_word : (FloatOps.ofBits .f32 0xFF800000#32 : Ideal .f32) = (⊥ : EReal) := by
  show Ideal.ieee 8 23 (0xFF800000#32 : BitVec 32) = _
  have e0 : ((0xFF800000#32 : BitVec 32).extractLsb' (8 + 23) 1 == 1#1) = true := by decide
  have e1 : ((0xFF800000#32 : BitVec 32).extractLsb' 23 8).toNat = 2 ^ 8 - 1 := by decide
  have e2 : ((0xFF800000#32 : BitVec 32).extractLsb' 0 23).toNat = 0 := by decide
  unfold Ideal.ieee
  simp only [e0, e1, e2]
  simp

/-- What holds of every element holds of every element of the vector reshaped. -/
theorem shapeCast_all {S T : Shape} {e : EltTy} {P : Elt Ideal e → Prop} (v : Vec Ideal S e) (h : S.ShapeCasts T) (hP : ∀ j, P (v j)) (i : T.Idx) :
    P (shapeCast T v h i) := hP _

/-- A row's maximum is the greatest of its magnitudes. -/
theorem rowMax0_eq (x : Vec Ideal S768x2048 .bf16) (j : S768.Idx) : rowMax0 x j = Finset.univ.fold max (⊥ : EReal)
    (fun k => size (Cert.KernelIdeal.Gen.k0_pay5 x (Cert.KernelIdeal.Gen.reduces_S768x2048_S768.lift j k))) := by
  unfold rowMax0
  rw [Ideal.multiReduction_maximumf_single (absf (Cert.KernelIdeal.Gen.k0_pay5 x)) 0xFF800000#32
    Cert.KernelIdeal.Gen.reduces_S768x2048_S768 (.inl rfl) rfl j, bot_word]
  rfl

/-- They are in range. -/
theorem rowMax_range (x : Vec Ideal S768x2048 .bf16) (hx : InRange x) (i : S768x1.Idx) :
    0 ≤ rowMax x i ∧ (rowMax x i ≤ bf16Max ∨ rowMax x i = ⊤) := by
  have hx' (j : S768x2048.Idx) : size (Cert.KernelIdeal.Gen.k0_pay5 x j) ≤ bf16Max ∨ size (Cert.KernelIdeal.Gen.k0_pay5 x j) = ⊤ :=
    shapeCast_all (e := .bf16) (P := fun y : EReal => size y ≤ bf16Max ∨ size y = ⊤) x _ hx j
  refine shapeCast_all (e := .f32) (P := fun y : EReal => 0 ≤ y ∧ (y ≤ bf16Max ∨ y = ⊤)) (rowMax0 x) _ (fun j => ?_) i
  rw [rowMax0_eq]
  exact fold_range Finset.univ ⟨⟨0, by decide⟩, Finset.mem_univ _⟩ _ fun k _ => hx' _

/-- The number whose exponent is asked, in row `i`. -/
abbrev scaled (x : Vec Ideal S768x2048 .bf16) (i : S768x1.Idx) : EReal := rowMax x i * factor

/-- The kernel's field in row `i`: 255 if the number is no number. -/
def rowField (v : EReal) : BitVec 32 := Scalar.select (Ideal.cmp .one v v) 255#32 (field (size v))

/-- An extended real is equal to itself, and one at or above 0 is its own magnitude. -/
theorem rowField_eq (v : EReal) (h : 0 ≤ v) : rowField v = field v := by
  have e : size v = v := max_eq_left ((EReal.neg_le_neg_iff.mpr h).trans (by simpa using h))
  unfold rowField
  rw [e]
  simp [Scalar.select, Ideal.cmp]

/-- A step of the search, in every row. -/
def stepV (w : FVec Ideal S768x1 .f32) (E : IVec S768x1 32) (b : BitVec 32) : IVec S768x1 32 :=
  select (cmpf .oge w (bitcastToFloat .f32 (shli (addi E (broadcast S768x1 b)) (broadcast S768x1 23#32)))) (addi E (broadcast S768x1 b)) E

/-- It is the step of row `i`. -/
theorem stepV_apply (w : FVec Ideal S768x1 .f32) (E : IVec S768x1 32) (b : BitVec 32) (i : S768x1.Idx) : stepV w E b i = step (w i) (E i) b := rfl

/-- A product of columns in row `i`. -/
theorem mulf_at (v w : FVec Ideal S768x1 .f32) (i) : (mulf v w) i = (v i * w i : EReal) := rfl

/-- A column of magnitudes in row `i`. -/
theorem absf_at (v : FVec Ideal S768x1 .f32) (i) : (absf v) i = size (v i) := rfl

/-- Whether row `i` holds no number. -/
theorem pay10_at (v : FVec Ideal S768x1 .f32) (i) : k0_pay10 v i = Ideal.cmp .one (v i) (v i) := rfl

/-- The kernel's numbers whose exponent is asked, in vector form. -/
theorem pay6_eq (x : Vec Ideal S768x2048 .bf16) : k0_pay6 x = mulf (rowMax x) (broadcast S768x1 factor) := by
  unfold k0_pay6 rowMax rowMax0 factor
  rfl

/-- In row `i`, the kernel's number whose exponent is asked. -/
theorem pay6_apply (x : Vec Ideal S768x2048 .bf16) (i : S768x1.Idx) : k0_pay6 x i = scaled x i := by
  rw [pay6_eq, mulf_at]; rfl

/-- A column of one word in row `i`. -/
theorem broadcast_at (b : BitVec 32) (i : S768x1.Idx) : (broadcast S768x1 b : IVec S768x1 32) i = b := rfl

/-- The first three steps of the kernel's search. -/
theorem pay7_eq (x : Vec Ideal S768x2048 .bf16) (w : FVec Ideal S768x1 .f32) (hw : absf (k0_pay6 x) = w) :
   k0_pay7 x = stepV w (stepV w (stepV w (broadcast S768x1 0#32) 128#32) 64#32) 32#32 := by
  unfold k0_pay7
  rw [hw]
  unfold stepV
  rfl

/-- The number that the fourth step compares with. -/
theorem pay8_eq (x : Vec Ideal S768x2048 .bf16) (E : IVec S768x1 32) (h : k0_pay7 x = E) : k0_pay8 x
   = bitcastToFloat .f32 (shli (addi E (broadcast S768x1 16#32)) (broadcast S768x1 23#32)) := by
  unfold k0_pay8
  rw [h]

/-- The other five steps of the kernel's search. -/
theorem pay9_eq (v w : FVec Ideal S768x1 .f32) (E : IVec S768x1 32) (hw : absf v = w) : k0_pay9 v E (bitcastToFloat .f32 (shli (addi E (broadcast S768x1 16#32)) (broadcast S768x1 23#32)))
   = stepV w (stepV w (stepV w (stepV w (stepV w E 16#32) 8#32) 4#32) 2#32) 1#32 := by
  unfold k0_pay9
  rw [hw]
  unfold stepV
  rfl

/-- The search in row `i`. -/
theorem fields_apply (x : Vec Ideal S768x2048 .bf16) (i : S768x1.Idx) : Cert.KernelIdeal.Own.fields x i = field (size (scaled x i)) := by
  unfold Cert.KernelIdeal.Own.fields
  rw [pay8_eq x _ rfl, pay9_eq _ _ _ rfl, pay7_eq _ _ rfl]
  iterate 8 rw [stepV_apply]
  rw [absf_at, pay6_apply, broadcast_at]; unfold field; rfl

/-- Where `m` holds the word `c`, else the field. -/
def pick (m : IVec S768x1 1) (E : IVec S768x1 32) (c : BitVec 32) : IVec S768x1 32 := select m (broadcast S768x1 c) E

/-- It is the choice of row `i`. -/
theorem pick_apply (m : IVec S768x1 1) (E : IVec S768x1 32) (c : BitVec 32) (i) : pick m E c i = Scalar.select (m i) c (E i) := rfl
/-- The patch of the fields, in every row. -/
def patchedV (E : IVec S768x1 32) : IVec S768x1 32 :=
  select (ori (cmpi .eq E (broadcast S768x1 0#32)) (cmpi .eq E (broadcast S768x1 255#32))) (broadcast S768x1 126#32) E

/-- It is the patch of row `i`. -/
theorem patchedV_apply (E : IVec S768x1 32) (i) : patchedV E i = patched (E i) := rfl

/-- The kernel's patched fields. -/
theorem pay1_eq (E m c) : k0_pay1 E m c = patchedV (pick m E c) := rfl

/-- The kernel's scales, in vector form. -/
theorem pay2_eq (E m c) : k0_pay2 (F := Ideal) E m c = bitcastToFloat .f32 (shli (addi (patchedV (pick m E c)) (broadcast S768x1 1#32)) (broadcast S768x1 23#32)) := rfl

/-- A vector of scales in row `i`. -/
theorem scaleV_apply (E : IVec S768x1 32) (i) : (bitcastToFloat .f32 (shli (addi (patchedV E) (broadcast S768x1 1#32)) (broadcast S768x1 23#32)) : FVec Ideal S768x1 .f32) i = scaleOf (E i) := by
   unfold scaleOf; rw [← patchedV_apply]; rfl

/-- A vector of reciprocals in row `i`. -/
theorem invV_apply (E : IVec S768x1 32) (i) : (bitcastToFloat .f32 (shli (subi (broadcast S768x1 253#32) (patchedV E)) (broadcast S768x1 23#32)) : FVec Ideal S768x1 .f32) i = invOf (E i) := by
   unfold invOf; rw [← patchedV_apply]; rfl

/-- The kernel's field in row `i`, 255 put in where there is no number. -/
theorem picked_apply (x : Vec Ideal S768x2048 .bf16) (i : S768x1.Idx) : pick (k0_pay10 (k0_pay6 x)) (Cert.KernelIdeal.Own.fields x) 255#32 i = rowField (scaled x i) := by
  rw [pick_apply, fields_apply, pay10_at, pay6_apply]; unfold rowField; rfl

/-- The kernel's scale in row `i`. -/
theorem scales_apply (x : Vec Ideal S768x2048 .bf16) (i : S768x1.Idx) :
    Cert.KernelIdeal.Own.scales x i = scaleOf (rowField (scaled x i)) := by
  unfold Cert.KernelIdeal.Own.scales
  rw [pay2_eq, scaleV_apply, picked_apply]

/-- The reference's exponents, from the rows' maxima and the numbers whose exponent is asked. -/
def expoV (a v : FVec Ideal S768x1 .f32) : FVec Ideal S768x1 .f32 :=
  select (cmpf .oeq a (broadcast S768x1 (Scalar.ofBits .f32 0x00000000#32))) (broadcast S768x1 (Scalar.ofBits .f32 0x00000000#32))
    (select (andi (cmpf .oge v (broadcast S768x1 (Scalar.ofBits .f32 0x00800000#32))) (cmpf .olt v (broadcast S768x1 (Scalar.ofBits .f32 0x7F800000#32))))
      (addf (floor (divf (log v) (log (broadcast S768x1 (Scalar.ofBits .f32 0x40000000#32))))) (broadcast S768x1 (Scalar.ofBits .f32 0x3F800000#32)))
      (broadcast S768x1 (Scalar.ofBits .f32 0x00000000#32)))

/-- It is the exponent of row `i`. -/
theorem expoV_apply (a v : FVec Ideal S768x1 .f32) (i : S768x1.Idx) : expoV a v i = expo (a i) (v i) := by
  unfold expo; rfl

/-- The reference's exponents, in vector form. -/
theorem ref_expo (x : Vec Ideal S768x2048 .bf16) : Cert.ReferenceIdeal.Gen.k0_pay3 x = expoV (rowMax x) (mulf (rowMax x) (broadcast S768x1 factor)) := by
  unfold Cert.ReferenceIdeal.Gen.k0_pay3 expoV rowMax rowMax0 factor
  rfl

/-- A column of powers of two in row `i`. -/
theorem exp2_at (v : FVec Ideal S768x1 .f32) (i : S768x1.Idx) : (exp2 v) i = Ideal.exp2 (v i) := rfl

/-- A column of reciprocal powers of two in row `i`. -/
theorem negexp2_at (z : EReal) (v : FVec Ideal S768x1 .f32) (i : S768x1.Idx) : exp2 (subf (broadcast S768x1 z : FVec Ideal S768x1 .f32) v) i = Ideal.exp2 (z - v i) := rfl

/-- The reference's scale in row `i`. -/
theorem ref_scales_apply (x : Vec Ideal S768x2048 .bf16) (i : S768x1.Idx) :
    Cert.ReferenceIdeal.Gen.k0_pay4 x i = Ideal.exp2 (expo (rowMax x i) (scaled x i)) := by
  unfold Cert.ReferenceIdeal.Gen.k0_pay4
  rw [ref_expo, exp2_at, expoV_apply, mulf_at]; rfl

/-- Codes from reciprocals: the activations times their row's reciprocal, clipped, as fp8. -/
def quant (x : Vec Ideal S768x2048 .bf16) (inv : FVec Ideal S768x1 .f32) : Vec Ideal S768x2048 .fp8e4m3 :=
  truncf .fp8e4m3 (minimumf (broadcast S768x2048 (Scalar.ofBits .f32 0x43E00000#32)) (maximumf (broadcast S768x2048 (Scalar.ofBits .f32 0xC3E00000#32))
    (mulf (k0_pay5 x) (broadcastTo S768x2048 inv Cert.KernelIdeal.Gen.broadcasts_S768x1_S768x2048))))
    Cert.KernelIdeal.Gen.bitsLt_fp8e4m3_f32

/-- The kernel's codes. -/
theorem codes_eq_quant (x : Vec Ideal S768x2048 .bf16) :
    Cert.KernelIdeal.Own.codes x = quant x (fun i => invOf (rowField (scaled x i))) := by
  have e : (fun i => invOf (rowField (scaled x i))) = (bitcastToFloat .f32 (shli (subi (broadcast S768x1 253#32) (patchedV (pick (k0_pay10 (k0_pay6 x)) (Cert.KernelIdeal.Own.fields x) 255#32))) (broadcast S768x1 23#32)) : FVec Ideal S768x1 .f32) := by
    funext i
    rw [invV_apply, picked_apply]
  rw [e]
  unfold Cert.KernelIdeal.Own.codes k0_pay3 quant
  rw [pay1_eq]

/-- The reference's codes. -/
theorem ref_codes_eq_quant (x : Vec Ideal S768x2048 .bf16) :
    Cert.ReferenceIdeal.Gen.k0_pay5 x
      = quant x (fun i => Ideal.exp2 (Ideal.ofBits .f32 0x00000000#32 - expo (rowMax x i) (scaled x i))) := by
  have e : (fun i => Ideal.exp2 (Ideal.ofBits .f32 0x00000000#32 - expo (rowMax x i) (scaled x i))) =
      exp2 (subf (broadcast S768x1 (Ideal.ofBits .f32 0x00000000#32) : FVec Ideal S768x1 .f32) (Cert.ReferenceIdeal.Gen.k0_pay3 x)) := by
    funext i
    rw [negexp2_at, ref_expo, expoV_apply, mulf_at]; rfl
  rw [e]
  unfold Cert.ReferenceIdeal.Gen.k0_pay5 quant
  rfl

/-- In a row, the kernel's scale and reciprocal are the reference's. -/
theorem row_agree (x : Vec Ideal S768x2048 .bf16) (hx : InRange x) (i : S768x1.Idx) :
    scaleOf (rowField (scaled x i)) = Ideal.exp2 (expo (rowMax x i) (scaled x i))
      ∧ invOf (rowField (scaled x i)) = Ideal.exp2 (0 - expo (rowMax x i) (scaled x i)) := by
  obtain ⟨h0, h1⟩ := rowMax_range x hx i
  obtain ⟨g0, g1, g2⟩ := scaled_range _ h0 h1
  rw [rowField_eq _ g0]
  exact scales_agree _ _ g0 g1 g2

/-- The kernel's scales are the reference's. -/
theorem scales_eq (x : Vec Ideal S768x2048 .bf16) (hx : InRange x) : Cert.KernelIdeal.Own.scales x = Cert.ReferenceIdeal.Gen.k0_pay4 x := by
  funext i
  rw [scales_apply, ref_scales_apply]
  exact (row_agree x hx i).1

/-- The word 0 denotes 0. -/
theorem zero_word : Ideal.ofBits .f32 0x00000000#32 = (0 : EReal) := pow2_zero

/-- The kernel's codes are the reference's. -/
theorem codes_eq (x : Vec Ideal S768x2048 .bf16) (hx : InRange x) : Cert.KernelIdeal.Own.codes x = Cert.ReferenceIdeal.Gen.k0_pay5 x := by
  rw [codes_eq_quant, ref_codes_eq_quant]
  refine congrArg (quant x) (funext fun i => ?_)
  rw [zero_word]
  exact (row_agree x hx i).2

end Cert.Own

end
-- ==== Proof.RefArrays.lean ====
/-
  The arrays that the reference leaves: its grid has one point, and each block is a whole array.
-/
module

public import proofs.«01_k».proof.Proof.Gen.ReferenceIdeal.Frame
public import Idealize.ShloMosaic.Lib.Pipeline.ValueKit

@[expose] public section

noncomputable section

namespace Cert.ReferenceIdeal.Own

open Idealize.ShloMosaic Idealize.ShloMosaic.TcCoe Idealize.SL.Sem
open Cert.ReferenceIdeal Cert.ReferenceIdeal.Gen
open Idealize.ShloMosaic.Pipeline (Dat)

variable {F : FTy → Type} [FloatOps F]
variable (m : (ℓ : Loc nD τ sig) → Buf (Elt F) ℓ)

/-- The block of the activations is the whole array. -/
theorem iblk_x (c : Dev nD) (t : Fin cfg0.N) : iblk m c 0 t = V m c main_v0 := by
  have e : ∀ t : Fin cfg0.N, win0_0.index t = ![0, 0] := (by decide +kernel : ∀ t : Fin grid0.N, win0_0.index t = ![0, 0])
  funext y
  blk_simp [iblk]
  blk_ext [e]

/-- The block of the weights is the whole array. -/
theorem iblk_w (c : Dev nD) (t : Fin cfg0.N) : iblk m c 1 t = V m c main_arg1 := by
  have e : ∀ t : Fin cfg0.N, win0_1.index t = ![0, 0] := (by decide +kernel : ∀ t : Fin grid0.N, win0_1.index t = ![0, 0])
  funext y
  blk_simp [iblk]
  blk_ext [e]

/-- The block of the weights' scales is the whole array. -/
theorem iblk_ws (c : Dev nD) (t : Fin cfg0.N) : iblk m c 2 t = V m c main_v1 := by
  have e : ∀ t : Fin cfg0.N, win0_2.index t = ![0, 0] := (by decide +kernel : ∀ t : Fin grid0.N, win0_2.index t = ![0, 0])
  funext y
  blk_simp [iblk]
  blk_ext [e]

/-- The block of the residual is the whole array. -/
theorem iblk_r (c : Dev nD) (t : Fin cfg0.N) : iblk m c 3 t = V m c main_v2 := by
  have e : ∀ t : Fin cfg0.N, win0_3.index t = ![0, 0] := (by decide +kernel : ∀ t : Fin grid0.N, win0_3.index t = ![0, 0])
  funext y
  blk_simp [iblk]
  blk_ext [e]

/-- What the body stores as the result. -/
theorem out_y (x : Vec F S768x2048 .bf16) (w : Vec F S2048x8192 .fp8e4m3) (ws : Vec F S1x8192 .f32) (r : Vec F S768x8192 .bf16) :
    out0_4 x w ws r = k0_pay1 (k0_pay6 x w) ws r := by
  frame_out

/-- What the body stores as the codes. -/
theorem out_q (x : Vec F S768x2048 .bf16) (w : Vec F S2048x8192 .fp8e4m3) (ws : Vec F S1x8192 .f32) (r : Vec F S768x8192 .bf16) :
    out0_5 x w ws r = k0_pay5 x := by
  frame_out

/-- What the body stores as the scales. -/
theorem out_s (x : Vec F S768x2048 .bf16) (w : Vec F S2048x8192 .fp8e4m3) (ws : Vec F S1x8192 .f32) (r : Vec F S768x8192 .bf16) :
    out0_6 x w ws r = k0_pay4 x := by
  frame_out

/-- The result array after the run. -/
theorem final_y (c : Dev nD) :
    (dats m 0 c).arrAt 4 cfg0.N = k0_pay1 (k0_pay6 (V m c main_v0) (V m c main_arg1)) (V m c main_v1) (V m c main_v2) := by
  have e : ∀ t : Fin cfg0.N, win0_4.index t = ![0, 0] := (by decide +kernel : ∀ t : Fin grid0.N, win0_4.index t = ![0, 0])
  have ha (t : Fin cfg0.N) : (dats m 0 c).after 4 t = k0_pay1 (k0_pay6 (V m c main_v0) (V m c main_arg1)) (V m c main_v1) (V m c main_v2) := by
    rw [after0_4, out_y, iblk_x, iblk_w, iblk_ws, iblk_r]
  generalize k0_pay1 (k0_pay6 (V m c main_v0) (V m c main_arg1)) (V m c main_v1) (V m c main_v2) = g at ha ⊢
  refine (dats m 0 c).arrAt_eq_of_covers 4 _ (by decide +kernel) fun t hf y => ?_
  blk_simp
  rw [ha]
  blk_ext [e]

/-- The codes' array after the run. -/
theorem final_q (c : Dev nD) : (dats m 0 c).arrAt 5 cfg0.N = k0_pay5 (V m c main_v0) := by
  have e : ∀ t : Fin cfg0.N, win0_5.index t = ![0, 0] := (by decide +kernel : ∀ t : Fin grid0.N, win0_5.index t = ![0, 0])
  have ha (t : Fin cfg0.N) : (dats m 0 c).after 5 t = k0_pay5 (V m c main_v0) := by
    rw [after0_5, out_q, iblk_x]
  generalize k0_pay5 (V m c main_v0) = g at ha ⊢
  refine (dats m 0 c).arrAt_eq_of_covers 5 _ (by decide +kernel) fun t hf y => ?_
  blk_simp
  rw [ha]
  blk_ext [e]

/-- The scales' array after the run. -/
theorem final_s (c : Dev nD) : (dats m 0 c).arrAt 6 cfg0.N = k0_pay4 (V m c main_v0) := by
  have e : ∀ t : Fin cfg0.N, win0_6.index t = ![0, 0] := (by decide +kernel : ∀ t : Fin grid0.N, win0_6.index t = ![0, 0])
  have ha (t : Fin cfg0.N) : (dats m 0 c).after 6 t = k0_pay4 (V m c main_v0) := by
    rw [after0_6, out_s, iblk_x]
  generalize k0_pay4 (V m c main_v0) = g at ha ⊢
  refine (dats m 0 c).arrAt_eq_of_covers 6 _ (by decide +kernel) fun t hf y => ?_
  blk_simp
  rw [ha]
  blk_ext [e]

end Cert.ReferenceIdeal.Own

end
-- ==== Proof.Host.lean ====
/-
  The arrays as the grids find them: the two programs reshape the same arguments.
-/
module

public import proofs.«01_k».proof.Proof.Gen.KernelIdeal.Frame
public import proofs.«01_k».proof.Proof.Gen.ReferenceIdeal.Frame
public import Idealize.ShloMosaic.Lib.StableHlo.Run
public import Idealize.ShloMosaic.PureOps.Ideal

@[expose] public section

noncomputable section

namespace Cert.Own

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's activations. -/
theorem V_x (c : Dev Cert.KernelIdeal.nD) : Cert.KernelIdeal.Gen.V m c Cert.KernelIdeal.main_v0
    = shapeCast Cert.KernelIdeal.S768x2048 (m ((c.tc : Thread Cert.KernelIdeal.nD Cert.KernelIdeal.τ).loc Cert.KernelIdeal.main_arg0))
      Cert.KernelIdeal.Gen.shapeCasts_S2x384x2048_S768x2048 := by
  unfold Cert.KernelIdeal.Gen.V
  after_results
  rfl

/-- The kernel's weights' scales. -/
theorem V_ws (c : Dev Cert.KernelIdeal.nD) : Cert.KernelIdeal.Gen.V m c Cert.KernelIdeal.main_v1
    = shapeCast Cert.KernelIdeal.S1x8192 (m ((c.tc : Thread Cert.KernelIdeal.nD Cert.KernelIdeal.τ).loc Cert.KernelIdeal.main_arg2))
      Cert.KernelIdeal.Gen.shapeCasts_S8192_S1x8192 := by
  unfold Cert.KernelIdeal.Gen.V
  after_results
  rfl

/-- The kernel's residual. -/
theorem V_r (c : Dev Cert.KernelIdeal.nD) : Cert.KernelIdeal.Gen.V m c Cert.KernelIdeal.main_v2
    = shapeCast Cert.KernelIdeal.S768x8192 (m ((c.tc : Thread Cert.KernelIdeal.nD Cert.KernelIdeal.τ).loc Cert.KernelIdeal.main_arg3))
      Cert.KernelIdeal.Gen.shapeCasts_S2x384x8192_S768x8192 := by
  unfold Cert.KernelIdeal.Gen.V
  after_results
  rfl

/-- The reference's activations. -/
theorem ref_V_x (c : Dev Cert.ReferenceIdeal.nD) : Cert.ReferenceIdeal.Gen.V m' c Cert.ReferenceIdeal.main_v0
    = shapeCast Cert.ReferenceIdeal.S768x2048 (m' ((c.tc : Thread Cert.ReferenceIdeal.nD Cert.ReferenceIdeal.τ).loc Cert.ReferenceIdeal.main_arg0))
      Cert.ReferenceIdeal.Gen.shapeCasts_S2x384x2048_S768x2048 := by
  unfold Cert.ReferenceIdeal.Gen.V
  after_results
  rfl

/-- The reference's weights' scales. -/
theorem ref_V_ws (c : Dev Cert.ReferenceIdeal.nD) : Cert.ReferenceIdeal.Gen.V m' c Cert.ReferenceIdeal.main_v1
    = shapeCast Cert.ReferenceIdeal.S1x8192 (m' ((c.tc : Thread Cert.ReferenceIdeal.nD Cert.ReferenceIdeal.τ).loc Cert.ReferenceIdeal.main_arg2))
      Cert.ReferenceIdeal.Gen.shapeCasts_S8192_S1x8192 := by
  unfold Cert.ReferenceIdeal.Gen.V
  after_results
  rfl

/-- The reference's residual. -/
theorem ref_V_r (c : Dev Cert.ReferenceIdeal.nD) : Cert.ReferenceIdeal.Gen.V m' c Cert.ReferenceIdeal.main_v2
    = shapeCast Cert.ReferenceIdeal.S768x8192 (m' ((c.tc : Thread Cert.ReferenceIdeal.nD Cert.ReferenceIdeal.τ).loc Cert.ReferenceIdeal.main_arg3))
      Cert.ReferenceIdeal.Gen.shapeCasts_S2x384x8192_S768x8192 := by
  unfold Cert.ReferenceIdeal.Gen.V
  after_results
  rfl

end Cert.Own

end
-- ==== Proof.Equal.lean ====
/-
  The kernel over the reals computes the reference: from the same arguments both runs leave the same three results.
-/
module

public import proofs.«01_k».proof.Defs
public import proofs.«01_k».proof.Proof.Arrays
public import proofs.«01_k».proof.Proof.Quantise
public import proofs.«01_k».proof.Proof.RefArrays
public import proofs.«01_k».proof.Proof.Host

@[expose] public section

noncomputable section

/-- The facts that the precondition's operations ask. -/
theorem Cert.Own.preFacts : Cert.Pre_bf16_range.Facts := ⟨by decide, by decide⟩

namespace Cert.Own

open Idealize.ShloMosaic Idealize.ShloMosaic.TcCoe Idealize.SL.Sem

/-- Of an or that holds, one side holds. -/
theorem or_bits (a b : Bool) (h : BitVec.ofBool a ||| BitVec.ofBool b = 1#1) : a = true ∨ b = true := by
  revert h
  cases a <;> cases b <;> decide

/-- The precondition, element by element: a magnitude is at most the largest finite one, or infinite. -/
theorem pre_apply [Cert.Pre_bf16_range.Facts] (x : FVec Ideal Cert.Pre_bf16_range.S2x384x2048 .bf16) (w ws r)
    (h : Cert.Pre_bf16_range.fn (F := Ideal) x w ws r = fun _ => 1#1) (i : Cert.Pre_bf16_range.S2x384x2048.Idx) :
    size (x i) ≤ bf16Max ∨ size (x i) = ⊤ := by
  have hi := congrFun h i
  unfold Cert.Pre_bf16_range.fn at hi
  have h2 : BitVec.ofBool (decide (size (x i) ≤ bf16Max)) ||| BitVec.ofBool (decide (size (x i) = Ideal.ofBits .f32 0x7F800000#32)) = 1#1 := hi
  rcases or_bits _ _ h2 with h3 | h3
  · exact .inl (of_decide_eq_true h3)
  · exact .inr ((of_decide_eq_true h3).trans inf_eq)

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Under the precondition the activations that the grid reads are in range. -/
theorem acts_inRange [Cert.KernelIdeal.Facts] [Cert.Pre_bf16_range.Facts] (h : Cert.Pre_KernelIdeal_bf16_range m) (c : Dev Cert.KernelIdeal.nD) :
    InRange (Cert.KernelIdeal.Gen.V m c Cert.KernelIdeal.main_v0) := by
  intro i
  rw [V_x]
  exact shapeCast_all (e := .bf16) (P := fun y : EReal => size y ≤ bf16Max ∨ size y = ⊤) _ _ (fun j => pre_apply _ _ _ _ (h c) j) i

/-- From one argument, both grids read the same activations. -/
theorem same_x (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Gen.V m' c Cert.ReferenceIdeal.main_v0 = Cert.KernelIdeal.Gen.V m c Cert.KernelIdeal.main_v0 := by
  rw [V_x, ref_V_x, h]

/-- From one argument, both grids read the same scales of the weights. -/
theorem same_ws (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Gen.V m' c Cert.ReferenceIdeal.main_v1 = Cert.KernelIdeal.Gen.V m c Cert.KernelIdeal.main_v1 := by
  rw [V_ws, ref_V_ws, h]

/-- From one argument, both grids read the same residual. -/
theorem same_r (c : Dev Cert.KernelIdeal.nD)
    (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Gen.V m' c Cert.ReferenceIdeal.main_v2 = Cert.KernelIdeal.Gen.V m c Cert.KernelIdeal.main_v2 := by
  rw [V_r, ref_V_r, h]

/-- From one argument, both grids read the same weights. -/
theorem same_w (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Gen.V m' c Cert.ReferenceIdeal.main_arg1 = Cert.KernelIdeal.Gen.V m c Cert.KernelIdeal.main_arg1 := by
  rw [Cert.ReferenceIdeal.Gen.V_main_arg1, Cert.KernelIdeal.Gen.V_main_arg1, h]

end

/-- The results of blocks are the result of the whole: the reference's product, read as the kernel's closed form. -/
theorem ref_result (x : Vec Ideal Cert.ReferenceIdeal.S768x2048 .bf16) (w : Vec Ideal Cert.ReferenceIdeal.S2048x8192 .fp8e4m3)
    (ws : Vec Ideal Cert.ReferenceIdeal.S1x8192 .f32) (r : Vec Ideal Cert.ReferenceIdeal.S768x8192 .bf16) (hx : InRange x) :
    Cert.ReferenceIdeal.Gen.k0_pay1 (Cert.ReferenceIdeal.Gen.k0_pay6 x w) ws r
      = fun y : Cert.ReferenceIdeal.S768x8192.Idx => yAt (Cert.KernelIdeal.Own.codes x) w (Cert.KernelIdeal.Own.scales x) ws r (y 0) (y 1) := by
  rw [codes_eq x hx, scales_eq x hx, ref_y_eq]
  generalize Cert.ReferenceIdeal.Gen.k0_pay5 x = q
  generalize Cert.ReferenceIdeal.Gen.k0_pay4 x = s
  funext y
  have hy : y = ValueIdx.ix2 (y 0) (y 1) := by funext k; fin_cases k <;> rfl
  refine (congrArg _ hy).trans (yVec_apply (by decide) q w s ws r _ _ _ (y 0) (y 1))

/-- The kernel over the reals and the reference leave the same results. -/
theorem algebraic [hKernelIdeal : Cert.KernelIdeal.Facts] [hReferenceIdeal : Cert.ReferenceIdeal.Facts] [hPre : Cert.Pre_bf16_range.Facts] :
    Cert.algebraic_KernelIdeal_ReferenceIdeal_pre_bf16_range := by
  intro m g m' g' hpre hargs
  refine ⟨fun c => (Cert.KernelIdeal.Own.dats m 0 c).arrAt 4 Cert.KernelIdeal.cfg0.N,
    fun c => (Cert.KernelIdeal.Own.dats m 0 c).arrAt 5 Cert.KernelIdeal.cfg0.N,
    fun c => (Cert.KernelIdeal.Own.dats m 0 c).arrAt 6 Cert.KernelIdeal.cfg0.N, ?_, ?_⟩
  · refine (θ_run Cert.KernelIdeal.defs _ _).mono (fun r h c => ⟨(h c).1 4, (h c).1 5, (h c).1 6, ?_, ?_, ?_, ?_⟩)
      (Cert.KernelIdeal.Own.run_main m g)
    · exact ((h c).2 Cert.KernelIdeal.main_arg0 (Pipeline.mem_restRefs_of Cert.KernelIdeal.main_arg0 (by decide) (by decide))).trans
        (Cert.KernelIdeal.Gen.V_main_arg0 m c)
    · exact ((h c).1 1).trans (((Cert.KernelIdeal.Own.dats m 0 c).arrAt_in 1 rfl _).trans
        ((Cert.KernelIdeal.Own.A_eq m c 1).trans (Cert.KernelIdeal.Gen.V_main_arg1 m c)))
    · exact ((h c).2 Cert.KernelIdeal.main_arg2 (Pipeline.mem_restRefs_of Cert.KernelIdeal.main_arg2 (by decide) (by decide))).trans
        (Cert.KernelIdeal.Gen.V_main_arg2 m c)
    · exact ((h c).2 Cert.KernelIdeal.main_arg3 (Pipeline.mem_restRefs_of Cert.KernelIdeal.main_arg3 (by decide) (by decide))).trans
        (Cert.KernelIdeal.Gen.V_main_arg3 m c)
  · refine (θ_run Cert.ReferenceIdeal.defs _ _).mono (fun r h c => ?_) (Cert.ReferenceIdeal.Gen.run_main m' g')
    obtain ⟨a0, a1, a2, a3⟩ := hargs c
    have hx := acts_inRange m hpre c
    refine ⟨((h c).1 4).trans ?_, ((h c).1 5).trans ?_, ((h c).1 6).trans ?_, ?_, ?_, ?_, ?_⟩
    · beta_reduce
      rw [Cert.ReferenceIdeal.Own.final_y, Cert.KernelIdeal.Own.final_y, Cert.KernelIdeal.Own.acts_eq, same_x m m' c a0, same_w m m' c a1,
        same_ws m m' c a2, same_r m m' c a3]
      exact ref_result _ _ _ _ hx
    · beta_reduce
      rw [Cert.ReferenceIdeal.Own.final_q, Cert.KernelIdeal.Own.final_q, Cert.KernelIdeal.Own.acts_eq, same_x m m' c a0]
      exact (codes_eq _ hx).symm
    · beta_reduce
      rw [Cert.ReferenceIdeal.Own.final_s, Cert.KernelIdeal.Own.final_s, Cert.KernelIdeal.Own.acts_eq, same_x m m' c a0]
      exact (scales_eq _ hx).symm
    · exact ((h c).2 Cert.ReferenceIdeal.main_arg0 (Pipeline.mem_restRefs_of Cert.ReferenceIdeal.main_arg0 (by decide) (by decide))).trans
        (Cert.ReferenceIdeal.Gen.V_main_arg0 m' c)
    · exact ((h c).1 1).trans (((Cert.ReferenceIdeal.Gen.dats m' 0 c).arrAt_in 1 rfl _).trans
        ((Cert.ReferenceIdeal.Gen.A_eq m' c 1).trans (Cert.ReferenceIdeal.Gen.V_main_arg1 m' c)))
    · exact ((h c).2 Cert.ReferenceIdeal.main_arg2 (Pipeline.mem_restRefs_of Cert.ReferenceIdeal.main_arg2 (by decide) (by decide))).trans
        (Cert.ReferenceIdeal.Gen.V_main_arg2 m' c)
    · exact ((h c).2 Cert.ReferenceIdeal.main_arg3 (Pipeline.mem_restRefs_of Cert.ReferenceIdeal.main_arg3 (by decide) (by decide))).trans
        (Cert.ReferenceIdeal.Gen.V_main_arg3 m' c)

end Cert.Own

end
-- ==== Proof.lean ====
/-
  The certificate: the three frames, the idealisation, and the equality of the kernel with the reference over the reals.
-/
module

public import proofs.«01_k».proof.Defs
public import proofs.«01_k».proof.Proof.KernelFrame
public import proofs.«01_k».proof.Proof.Equal

@[expose] public section

/-- Everything that the certificate claims. -/
theorem Cert.Proof.claim : Cert.Claim :=
  ⟨Cert.Kernel.Gen.facts, Cert.KernelIdeal.Gen.facts, Cert.ReferenceIdeal.Gen.facts, Cert.Own.preFacts,
    Cert.Kernel.Own.frame,
    fun m ρ _ => Cert.KernelIdeal.Own.frame m ρ,
    fun m ρ _ => Cert.KernelIdeal.Own.frame m ρ,
    fun m ρ _ => Cert.ReferenceIdeal.Gen.frame m ρ,
    fun m ρ _ => Cert.ReferenceIdeal.Gen.frame m ρ,
    trivial,
    Cert.Own.algebraic (hPre := Cert.Own.preFacts)⟩
